-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x1024 : Shape := ⟨3, ![4, 4096, 1024]⟩
abbrev S4x8x8x1024 : Shape := ⟨4, ![4, 8, 8, 1024]⟩
abbrev S2x48x1024 : Shape := ⟨3, ![2, 48, 1024]⟩
abbrev S8x1024 : Shape := ⟨2, ![8, 1024]⟩
abbrev S_ : Shape := ⟨0, ![]⟩
abbrev S16 : Shape := ⟨1, ![16]⟩
abbrev S1x16 : Shape := ⟨2, ![1, 16]⟩
abbrev S1x48x1024 : Shape := ⟨3, ![1, 48, 1024]⟩
abbrev S48x1024 : Shape := ⟨2, ![48, 1024]⟩
abbrev S1x1x16 : Shape := ⟨3, ![1, 1, 16]⟩
abbrev S1x1x8x1024 : Shape := ⟨4, ![1, 1, 8, 1024]⟩
abbrev S4x8x1024 : Shape := ⟨3, ![4, 8, 1024]⟩
abbrev S1x2560x128 : Shape := ⟨3, ![1, 2560, 128]⟩
abbrev S1x8x128 : Shape := ⟨3, ![1, 8, 128]⟩
abbrev S8x128 : Shape := ⟨2, ![8, 128]⟩
abbrev S64x128 : Shape := ⟨2, ![64, 128]⟩
abbrev S128 : Shape := ⟨1, ![128]⟩
abbrev S1x128 : Shape := ⟨2, ![1, 128]⟩
abbrev S4x64x1024 : Shape := ⟨3, ![4, 64, 1024]⟩
abbrev S4x1024x8 : Shape := ⟨3, ![4, 1024, 8]⟩
abbrev S72x1024 : Shape := ⟨2, ![72, 1024]⟩
abbrev S1x8x1024 : Shape := ⟨3, ![1, 8, 1024]⟩
abbrev S1x64x1024 : Shape := ⟨3, ![1, 64, 1024]⟩
abbrev S64x1024 : Shape := ⟨2, ![64, 1024]⟩
abbrev S1024 : Shape := ⟨1, ![1024]⟩
abbrev S1x1024 : Shape := ⟨2, ![1, 1024]⟩
abbrev S1024x8 : Shape := ⟨2, ![1024, 8]⟩
abbrev S1x1024x8 : Shape := ⟨3, ![1, 1024, 8]⟩
abbrev S4x8192 : Shape := ⟨2, ![4, 8192]⟩

abbrev nBuf : Table → Nat
  | .hbm => 6
  | .local .tc .vmem => 7
  | .local .scVector .vmem => 2
  | _ => 0

abbrev bufTy : (tb : Table) → Fin (nBuf tb) → BufTy
  | .hbm, ⟨0, _⟩ => ⟨S4x4096x1024, .f32⟩
  | .hbm, ⟨1, _⟩ => ⟨S4x8x8x1024, .f32⟩
  | .hbm, ⟨2, _⟩ => ⟨S4x8x1024, .f32⟩
  | .hbm, ⟨3, _⟩ => ⟨S4x64x1024, .f32⟩
  | .hbm, ⟨4, _⟩ => ⟨S4x1024x8, .f32⟩
  | .hbm, ⟨5, _⟩ => ⟨S4x8192, .f32⟩
  | .local .tc .vmem, ⟨0, _⟩ => ⟨S1x2560x128, .f32⟩
  | .local .tc .vmem, ⟨1, _⟩ => ⟨S1x2560x128, .f32⟩
  | .local .tc .vmem, ⟨2, _⟩ => ⟨S1x8x128, .f32⟩
  | .local .tc .vmem, ⟨3, _⟩ => ⟨S1x8x128, .f32⟩
  | .local .tc .vmem, ⟨4, _⟩ => ⟨S4x8x1024, .f32⟩
  | .local .tc .vmem, ⟨5, _⟩ => ⟨S4x64x1024, .f32⟩
  | .local .tc .vmem, ⟨6, _⟩ => ⟨S4x1024x8, .f32⟩
  | .local .scVector .vmem, ⟨0, _⟩ => ⟨S2x48x1024, .f32⟩
  | .local .scVector .vmem, ⟨1, _⟩ => ⟨S8x1024, .f32⟩
  | _, _ => ⟨S4x4096x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_arg0_scv : Ref sig .scVector := ⟨.hbm, 0, rfl⟩
abbrev main_v0_scv : Ref sig .scVector := ⟨.hbm, 1, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg2_0 : Ref sig .tc := ⟨.vmem, 6, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc2_sem0_0 : DmaSem sig := 7
abbrev cc2_sem1_0 : DmaSem sig := 8
abbrev cc2_sem2_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_11 : BitVec 32 := 0#32
  let c64_i32 : BitVec 32 := 64#32
  let v32 : BitVec 32 := Scalar.addi c0_i32_11 c64_i32
  let c1_i32_12 : BitVec 32 := 1#32
  ⟨c0_i32_11, v32, c1_i32_12⟩
def k0_off1 (k0_t1 : Fin k0_t1_loop.trips) : Fin 2 → Nat :=
  let c0_i32_107 : BitVec 32 := 0#32
  let v112 : Index := Scalar.indexCast c0_i32_107
  let c0_i32_11 : BitVec 32 := 0#32
  let c1_i32_12 : BitVec 32 := 1#32
  let arg8 : BitVec 32 := Scf.iv c0_i32_11 c1_i32_12 k0_t1
  let c16_i32 : BitVec 32 := 16#32
  let v111 : BitVec 32 := Scalar.muli arg8 c16_i32
  let v113 : Index := Scalar.indexCast v111
  ![0, v113.toNat]
def k0_off2 (k0_t1 : Fin k0_t1_loop.trips) : Fin 2 → Nat :=
  let c1_i32_109 : BitVec 32 := 1#32
  let v118 : Index := Scalar.indexCast c1_i32_109
  let c0_i32_11 : BitVec 32 := 0#32
  let c1_i32_12 : BitVec 32 := 1#32
  let arg8 : BitVec 32 := Scf.iv c0_i32_11 c1_i32_12 k0_t1
  let c16_i32_108 : BitVec 32 := 16#32
  let v117 : BitVec 32 := Scalar.muli arg8 c16_i32_108
  let v119 : Index := Scalar.indexCast v117
  ![1, v119.toNat]
def k0_off3 (k0_t1 : Fin k0_t1_loop.trips) : Fin 2 → Nat :=
  let c2_i32_111 : BitVec 32 := 2#32
  let v124 : Index := Scalar.indexCast c2_i32_111
  let c0_i32_11 : BitVec 32 := 0#32
  let c1_i32_12 : BitVec 32 := 1#32
  let arg8 : BitVec 32 := Scf.iv c0_i32_11 c1_i32_12 k0_t1
  let c16_i32_110 : BitVec 32 := 16#32
  let v123 : BitVec 32 := Scalar.muli arg8 c16_i32_110
  let v125 : Index := Scalar.indexCast v123
  ![2, v125.toNat]
def k0_off4 (k0_t1 : Fin k0_t1_loop.trips) : Fin 2 → Nat :=
  let c3_i32_113 : BitVec 32 := 3#32
  let v130 : Index := Scalar.indexCast c3_i32_113
  let c0_i32_11 : BitVec 32 := 0#32
  let c1_i32_12 : BitVec 32 := 1#32
  let arg8 : BitVec 32 := Scf.iv c0_i32_11 c1_i32_12 k0_t1
  let c16_i32_112 : BitVec 32 := 16#32
  let v129 : BitVec 32 := Scalar.muli arg8 c16_i32_112
  let v131 : Index := Scalar.indexCast v129
  ![3, v131.toNat]
def k0_off5 (k0_t1 : Fin k0_t1_loop.trips) : Fin 2 → Nat :=
  let c4_i32 : BitVec 32 := 4#32
  let v136 : Index := Scalar.indexCast c4_i32
  let c0_i32_11 : BitVec 32 := 0#32
  let c1_i32_12 : BitVec 32 := 1#32
  let arg8 : BitVec 32 := Scf.iv c0_i32_11 c1_i32_12 k0_t1
  let c16_i32_114 : BitVec 32 := 16#32
  let v135 : BitVec 32 := Scalar.muli arg8 c16_i32_114
  let v137 : Index := Scalar.indexCast v135
  ![4, v137.toNat]
def k0_off6 (k0_t1 : Fin k0_t1_loop.trips) : Fin 2 → Nat :=
  let c5_i32 : BitVec 32 := 5#32
  let v142 : Index := Scalar.indexCast c5_i32
  let c0_i32_11 : BitVec 32 := 0#32
  let c1_i32_12 : BitVec 32 := 1#32
  let arg8 : BitVec 32 := Scf.iv c0_i32_11 c1_i32_12 k0_t1
  let c16_i32_115 : BitVec 32 := 16#32
  let v141 : BitVec 32 := Scalar.muli arg8 c16_i32_115
  let v143 : Index := Scalar.indexCast v141
  ![5, v143.toNat]
def k0_off7 (k0_t1 : Fin k0_t1_loop.trips) : Fin 2 → Nat :=
  let c6_i32 : BitVec 32 := 6#32
  let v148 : Index := Scalar.indexCast c6_i32
  let c0_i32_11 : BitVec 32 := 0#32
  let c1_i32_12 : BitVec 32 := 1#32
  let arg8 : BitVec 32 := Scf.iv c0_i32_11 c1_i32_12 k0_t1
  let c16_i32_116 : BitVec 32 := 16#32
  let v147 : BitVec 32 := Scalar.muli arg8 c16_i32_116
  let v149 : Index := Scalar.indexCast v147
  ![6, v149.toNat]
def k0_off8 (k0_t1 : Fin k0_t1_loop.trips) : Fin 2 → Nat :=
  let c7_i32 : BitVec 32 := 7#32
  let v154 : Index := Scalar.indexCast c7_i32
  let c0_i32_11 : BitVec 32 := 0#32
  let c1_i32_12 : BitVec 32 := 1#32
  let arg8 : BitVec 32 := Scf.iv c0_i32_11 c1_i32_12 k0_t1
  let c16_i32_117 : BitVec 32 := 16#32
  let v153 : BitVec 32 := Scalar.muli arg8 c16_i32_117
  let v155 : Index := Scalar.indexCast v153
  ![7, v155.toNat]
def k0_off9 (i : grid0.Coords) (c0_i32_14 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2560_i32 : BitVec 32 := 2560#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c192_i32 : BitVec 32 := 192#32
  let v29 : BitVec 32 := Scalar.muli v28 c192_i32
  let v30 : BitVec 32 := Scalar.addi c2560_i32 v29
  let v33 : BitVec 32 := Scalar.addi v30 c0_i32_14
  let c0_i32_18 : BitVec 32 := 0#32
  ![v18.toNat, v33.toNat, 0]
def k0_off10 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_34 : BitVec 32 := 0#32
  let c0_i32_35 : BitVec 32 := 0#32
  ![v18.toNat, 0, 0]
@[reducible] def k0_t2_loop : Scf.Loop 32 :=
  let c0_i32_41 : BitVec 32 := 0#32
  let c64_i32_42 : BitVec 32 := 64#32
  let v59 : BitVec 32 := Scalar.addi c0_i32_41 c64_i32_42
  let c1_i32_43 : BitVec 32 := 1#32
  ⟨c0_i32_41, v59, c1_i32_43⟩
def k0_off11 (k0_t2 : Fin k0_t2_loop.trips) : Fin 2 → Nat :=
  let c0_i32_107 : BitVec 32 := 0#32
  let v112 : Index := Scalar.indexCast c0_i32_107
  let c0_i32_41 : BitVec 32 := 0#32
  let c1_i32_43 : BitVec 32 := 1#32
  let arg8 : BitVec 32 := Scf.iv c0_i32_41 c1_i32_43 k0_t2
  let c16_i32 : BitVec 32 := 16#32
  let v111 : BitVec 32 := Scalar.muli arg8 c16_i32
  let v113 : Index := Scalar.indexCast v111
  ![0, v113.toNat]
def k0_off12 (k0_t2 : Fin k0_t2_loop.trips) : Fin 2 → Nat :=
  let c1_i32_108 : BitVec 32 := 1#32
  let v116 : Index := Scalar.indexCast c1_i32_108
  let c0_i32_41 : BitVec 32 := 0#32
  let c1_i32_43 : BitVec 32 := 1#32
  let arg8 : BitVec 32 := Scf.iv c0_i32_41 c1_i32_43 k0_t2
  let c16_i32 : BitVec 32 := 16#32
  let v111 : BitVec 32 := Scalar.muli arg8 c16_i32
  let v117 : Index := Scalar.indexCast v111
  ![1, v117.toNat]
def k0_off13 (k0_t2 : Fin k0_t2_loop.trips) : Fin 2 → Nat :=
  let c2_i32_109 : BitVec 32 := 2#32
  let v120 : Index := Scalar.indexCast c2_i32_109
  let c0_i32_41 : BitVec 32 := 0#32
  let c1_i32_43 : BitVec 32 := 1#32
  let arg8 : BitVec 32 := Scf.iv c0_i32_41 c1_i32_43 k0_t2
  let c16_i32 : BitVec 32 := 16#32
  let v111 : BitVec 32 := Scalar.muli arg8 c16_i32
  let v121 : Index := Scalar.indexCast v111
  ![2, v121.toNat]
def k0_off14 (k0_t2 : Fin k0_t2_loop.trips) : Fin 2 → Nat :=
  let c3_i32_110 : BitVec 32 := 3#32
  let v124 : Index := Scalar.indexCast c3_i32_110
  let c0_i32_41 : BitVec 32 := 0#32
  let c1_i32_43 : BitVec 32 := 1#32
  let arg8 : BitVec 32 := Scf.iv c0_i32_41 c1_i32_43 k0_t2
  let c16_i32 : BitVec 32 := 16#32
  let v111 : BitVec 32 := Scalar.muli arg8 c16_i32
  let v125 : Index := Scalar.indexCast v111
  ![3, v125.toNat]
def k0_off15 (k0_t2 : Fin k0_t2_loop.trips) : Fin 2 → Nat :=
  let c4_i32 : BitVec 32 := 4#32
  let v128 : Index := Scalar.indexCast c4_i32
  let c0_i32_41 : BitVec 32 := 0#32
  let c1_i32_43 : BitVec 32 := 1#32
  let arg8 : BitVec 32 := Scf.iv c0_i32_41 c1_i32_43 k0_t2
  let c16_i32 : BitVec 32 := 16#32
  let v111 : BitVec 32 := Scalar.muli arg8 c16_i32
  let v129 : Index := Scalar.indexCast v111
  ![4, v129.toNat]
def k0_off16 (k0_t2 : Fin k0_t2_loop.trips) : Fin 2 → Nat :=
  let c5_i32 : BitVec 32 := 5#32
  let v132 : Index := Scalar.indexCast c5_i32
  let c0_i32_41 : BitVec 32 := 0#32
  let c1_i32_43 : BitVec 32 := 1#32
  let arg8 : BitVec 32 := Scf.iv c0_i32_41 c1_i32_43 k0_t2
  let c16_i32 : BitVec 32 := 16#32
  let v111 : BitVec 32 := Scalar.muli arg8 c16_i32
  let v133 : Index := Scalar.indexCast v111
  ![5, v133.toNat]
def k0_off17 (k0_t2 : Fin k0_t2_loop.trips) : Fin 2 → Nat :=
  let c6_i32 : BitVec 32 := 6#32
  let v136 : Index := Scalar.indexCast c6_i32
  let c0_i32_41 : BitVec 32 := 0#32
  let c1_i32_43 : BitVec 32 := 1#32
  let arg8 : BitVec 32 := Scf.iv c0_i32_41 c1_i32_43 k0_t2
  let c16_i32 : BitVec 32 := 16#32
  let v111 : BitVec 32 := Scalar.muli arg8 c16_i32
  let v137 : Index := Scalar.indexCast v111
  ![6, v137.toNat]
def k0_off18 (k0_t2 : Fin k0_t2_loop.trips) : Fin 2 → Nat :=
  let c7_i32 : BitVec 32 := 7#32
  let v140 : Index := Scalar.indexCast c7_i32
  let c0_i32_41 : BitVec 32 := 0#32
  let c1_i32_43 : BitVec 32 := 1#32
  let arg8 : BitVec 32 := Scf.iv c0_i32_41 c1_i32_43 k0_t2
  let c16_i32 : BitVec 32 := 16#32
  let v111 : BitVec 32 := Scalar.muli arg8 c16_i32
  let v141 : Index := Scalar.indexCast v111
  ![7, v141.toNat]
@[reducible] def k0_t3_loop : Scf.Loop 32 :=
  let c0_i32_111 : BitVec 32 := 0#32
  let c6_i32_112 : BitVec 32 := 6#32
  let v144 : BitVec 32 := Scalar.addi c0_i32_111 c6_i32_112
  let c1_i32_113 : BitVec 32 := 1#32
  ⟨c0_i32_111, v144, c1_i32_113⟩
def k0_off19 (k0_t2 : Fin k0_t2_loop.trips) (k0_t3 : Fin k0_t3_loop.trips) (c0_i32_124 : BitVec 32) : Fin 3 → Nat :=
  let c0_i32_125 : BitVec 32 := 0#32
  let v188 : Index := Scalar.indexCast c0_i32_125
  let c0_i32_111 : BitVec 32 := 0#32
  let c1_i32_113 : BitVec 32 := 1#32
  let arg9 : BitVec 32 := Scf.iv c0_i32_111 c1_i32_113 k0_t3
  let c8_i32_123 : BitVec 32 := 8#32
  let v186 : BitVec 32 := Scalar.muli arg9 c8_i32_123
  let v187 : BitVec 32 := Scalar.addi v186 c0_i32_124
  let v189 : Index := Scalar.indexCast v187
  let c0_i32_41 : BitVec 32 := 0#32
  let c1_i32_43 : BitVec 32 := 1#32
  let arg8 : BitVec 32 := Scf.iv c0_i32_41 c1_i32_43 k0_t2
  let c16_i32 : BitVec 32 := 16#32
  let v111 : BitVec 32 := Scalar.muli arg8 c16_i32
  let v190 : Index := Scalar.indexCast v111
  ![0, v189.toNat, v190.toNat]
def k0_off20 (i : grid0.Coords) (c2_i32_46 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2560_i32 : BitVec 32 := 2560#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c192_i32 : BitVec 32 := 192#32
  let v29 : BitVec 32 := Scalar.muli v28 c192_i32
  let v30 : BitVec 32 := Scalar.addi c2560_i32 v29
  let c2_i32_45 : BitVec 32 := 2#32
  let c0_i32_30 : BitVec 32 := 0#32
  let v60 : BitVec 32 := Scalar.muli c2_i32_45 c0_i32_30
  let v61 : BitVec 32 := Scalar.addi v60 c2_i32_46
  let c48_i32_47 : BitVec 32 := 48#32
  let v62 : BitVec 32 := Scalar.muli v61 c48_i32_47
  let v63 : BitVec 32 := Scalar.addi v30 v62
  let c0_i32_51 : BitVec 32 := 0#32
  ![v18.toNat, v63.toNat, 0]
@[reducible] def k0_t4_loop : Scf.Loop 32 :=
  let c0_i32_65 : BitVec 32 := 0#32
  let c64_i32_66 : BitVec 32 := 64#32
  let v80 : BitVec 32 := Scalar.addi c0_i32_65 c64_i32_66
  let c1_i32_67 : BitVec 32 := 1#32
  ⟨c0_i32_65, v80, c1_i32_67⟩
def k0_off21 (k0_t4 : Fin k0_t4_loop.trips) : Fin 2 → Nat :=
  let c0_i32_107 : BitVec 32 := 0#32
  let v112 : Index := Scalar.indexCast c0_i32_107
  let c0_i32_65 : BitVec 32 := 0#32
  let c1_i32_67 : BitVec 32 := 1#32
  let arg8 : BitVec 32 := Scf.iv c0_i32_65 c1_i32_67 k0_t4
  let c16_i32 : BitVec 32 := 16#32
  let v111 : BitVec 32 := Scalar.muli arg8 c16_i32
  let v113 : Index := Scalar.indexCast v111
  ![0, v113.toNat]
def k0_off22 (k0_t4 : Fin k0_t4_loop.trips) : Fin 2 → Nat :=
  let c1_i32_108 : BitVec 32 := 1#32
  let v116 : Index := Scalar.indexCast c1_i32_108
  let c0_i32_65 : BitVec 32 := 0#32
  let c1_i32_67 : BitVec 32 := 1#32
  let arg8 : BitVec 32 := Scf.iv c0_i32_65 c1_i32_67 k0_t4
  let c16_i32 : BitVec 32 := 16#32
  let v111 : BitVec 32 := Scalar.muli arg8 c16_i32
  let v117 : Index := Scalar.indexCast v111
  ![1, v117.toNat]
def k0_off23 (k0_t4 : Fin k0_t4_loop.trips) : Fin 2 → Nat :=
  let c2_i32_109 : BitVec 32 := 2#32
  let v120 : Index := Scalar.indexCast c2_i32_109
  let c0_i32_65 : BitVec 32 := 0#32
  let c1_i32_67 : BitVec 32 := 1#32
  let arg8 : BitVec 32 := Scf.iv c0_i32_65 c1_i32_67 k0_t4
  let c16_i32 : BitVec 32 := 16#32
  let v111 : BitVec 32 := Scalar.muli arg8 c16_i32
  let v121 : Index := Scalar.indexCast v111
  ![2, v121.toNat]
def k0_off24 (k0_t4 : Fin k0_t4_loop.trips) : Fin 2 → Nat :=
  let c3_i32_110 : BitVec 32 := 3#32
  let v124 : Index := Scalar.indexCast c3_i32_110
  let c0_i32_65 : BitVec 32 := 0#32
  let c1_i32_67 : BitVec 32 := 1#32
  let arg8 : BitVec 32 := Scf.iv c0_i32_65 c1_i32_67 k0_t4
  let c16_i32 : BitVec 32 := 16#32
  let v111 : BitVec 32 := Scalar.muli arg8 c16_i32
  let v125 : Index := Scalar.indexCast v111
  ![3, v125.toNat]
def k0_off25 (k0_t4 : Fin k0_t4_loop.trips) : Fin 2 → Nat :=
  let c4_i32 : BitVec 32 := 4#32
  let v128 : Index := Scalar.indexCast c4_i32
  let c0_i32_65 : BitVec 32 := 0#32
  let c1_i32_67 : BitVec 32 := 1#32
  let arg8 : BitVec 32 := Scf.iv c0_i32_65 c1_i32_67 k0_t4
  let c16_i32 : BitVec 32 := 16#32
  let v111 : BitVec 32 := Scalar.muli arg8 c16_i32
  let v129 : Index := Scalar.indexCast v111
  ![4, v129.toNat]
def k0_off26 (k0_t4 : Fin k0_t4_loop.trips) : Fin 2 → Nat :=
  let c5_i32 : BitVec 32 := 5#32
  let v132 : Index := Scalar.indexCast c5_i32
  let c0_i32_65 : BitVec 32 := 0#32
  let c1_i32_67 : BitVec 32 := 1#32
  let arg8 : BitVec 32 := Scf.iv c0_i32_65 c1_i32_67 k0_t4
  let c16_i32 : BitVec 32 := 16#32
  let v111 : BitVec 32 := Scalar.muli arg8 c16_i32
  let v133 : Index := Scalar.indexCast v111
  ![5, v133.toNat]
def k0_off27 (k0_t4 : Fin k0_t4_loop.trips) : Fin 2 → Nat :=
  let c6_i32 : BitVec 32 := 6#32
  let v136 : Index := Scalar.indexCast c6_i32
  let c0_i32_65 : BitVec 32 := 0#32
  let c1_i32_67 : BitVec 32 := 1#32
  let arg8 : BitVec 32 := Scf.iv c0_i32_65 c1_i32_67 k0_t4
  let c16_i32 : BitVec 32 := 16#32
  let v111 : BitVec 32 := Scalar.muli arg8 c16_i32
  let v137 : Index := Scalar.indexCast v111
  ![6, v137.toNat]
def k0_off28 (k0_t4 : Fin k0_t4_loop.trips) : Fin 2 → Nat :=
  let c7_i32 : BitVec 32 := 7#32
  let v140 : Index := Scalar.indexCast c7_i32
  let c0_i32_65 : BitVec 32 := 0#32
  let c1_i32_67 : BitVec 32 := 1#32
  let arg8 : BitVec 32 := Scf.iv c0_i32_65 c1_i32_67 k0_t4
  let c16_i32 : BitVec 32 := 16#32
  let v111 : BitVec 32 := Scalar.muli arg8 c16_i32
  let v141 : Index := Scalar.indexCast v111
  ![7, v141.toNat]
@[reducible] def k0_t5_loop : Scf.Loop 32 :=
  let c0_i32_111 : BitVec 32 := 0#32
  let c6_i32_112 : BitVec 32 := 6#32
  let v144 : BitVec 32 := Scalar.addi c0_i32_111 c6_i32_112
  let c1_i32_113 : BitVec 32 := 1#32
  ⟨c0_i32_111, v144, c1_i32_113⟩
def k0_off29 (k0_t4 : Fin k0_t4_loop.trips) (k0_t5 : Fin k0_t5_loop.trips) (c0_i32_124 : BitVec 32) : Fin 3 → Nat :=
  let c1_i32_125 : BitVec 32 := 1#32
  let v188 : Index := Scalar.indexCast c1_i32_125
  let c0_i32_111 : BitVec 32 := 0#32
  let c1_i32_113 : BitVec 32 := 1#32
  let arg9 : BitVec 32 := Scf.iv c0_i32_111 c1_i32_113 k0_t5
  let c8_i32_123 : BitVec 32 := 8#32
  let v186 : BitVec 32 := Scalar.muli arg9 c8_i32_123
  let v187 : BitVec 32 := Scalar.addi v186 c0_i32_124
  let v189 : Index := Scalar.indexCast v187
  let c0_i32_65 : BitVec 32 := 0#32
  let c1_i32_67 : BitVec 32 := 1#32
  let arg8 : BitVec 32 := Scf.iv c0_i32_65 c1_i32_67 k0_t4
  let c16_i32 : BitVec 32 := 16#32
  let v111 : BitVec 32 := Scalar.muli arg8 c16_i32
  let v190 : Index := Scalar.indexCast v111
  ![1, v189.toNat, v190.toNat]
@[reducible] def k0_t6_loop : Scf.Loop 32 :=
  let c0_i32_89 : BitVec 32 := 0#32
  let c64_i32_90 : BitVec 32 := 64#32
  let v101 : BitVec 32 := Scalar.addi c0_i32_89 c64_i32_90
  let c1_i32_91 : BitVec 32 := 1#32
  ⟨c0_i32_89, v101, c1_i32_91⟩
def k0_off30 (k0_t6 : Fin k0_t6_loop.trips) : Fin 2 → Nat :=
  let c0_i32_107 : BitVec 32 := 0#32
  let v112 : Index := Scalar.indexCast c0_i32_107
  let c0_i32_89 : BitVec 32 := 0#32
  let c1_i32_91 : BitVec 32 := 1#32
  let arg8 : BitVec 32 := Scf.iv c0_i32_89 c1_i32_91 k0_t6
  let c16_i32 : BitVec 32 := 16#32
  let v111 : BitVec 32 := Scalar.muli arg8 c16_i32
  let v113 : Index := Scalar.indexCast v111
  ![0, v113.toNat]
def k0_off31 (k0_t6 : Fin k0_t6_loop.trips) : Fin 2 → Nat :=
  let c1_i32_108 : BitVec 32 := 1#32
  let v116 : Index := Scalar.indexCast c1_i32_108
  let c0_i32_89 : BitVec 32 := 0#32
  let c1_i32_91 : BitVec 32 := 1#32
  let arg8 : BitVec 32 := Scf.iv c0_i32_89 c1_i32_91 k0_t6
  let c16_i32 : BitVec 32 := 16#32
  let v111 : BitVec 32 := Scalar.muli arg8 c16_i32
  let v117 : Index := Scalar.indexCast v111
  ![1, v117.toNat]
def k0_off32 (k0_t6 : Fin k0_t6_loop.trips) : Fin 2 → Nat :=
  let c2_i32_109 : BitVec 32 := 2#32
  let v120 : Index := Scalar.indexCast c2_i32_109
  let c0_i32_89 : BitVec 32 := 0#32
  let c1_i32_91 : BitVec 32 := 1#32
  let arg8 : BitVec 32 := Scf.iv c0_i32_89 c1_i32_91 k0_t6
  let c16_i32 : BitVec 32 := 16#32
  let v111 : BitVec 32 := Scalar.muli arg8 c16_i32
  let v121 : Index := Scalar.indexCast v111
  ![2, v121.toNat]
def k0_off33 (k0_t6 : Fin k0_t6_loop.trips) : Fin 2 → Nat :=
  let c3_i32_110 : BitVec 32 := 3#32
  let v124 : Index := Scalar.indexCast c3_i32_110
  let c0_i32_89 : BitVec 32 := 0#32
  let c1_i32_91 : BitVec 32 := 1#32
  let arg8 : BitVec 32 := Scf.iv c0_i32_89 c1_i32_91 k0_t6
  let c16_i32 : BitVec 32 := 16#32
  let v111 : BitVec 32 := Scalar.muli arg8 c16_i32
  let v125 : Index := Scalar.indexCast v111
  ![3, v125.toNat]
def k0_off34 (k0_t6 : Fin k0_t6_loop.trips) : Fin 2 → Nat :=
  let c4_i32 : BitVec 32 := 4#32
  let v128 : Index := Scalar.indexCast c4_i32
  let c0_i32_89 : BitVec 32 := 0#32
  let c1_i32_91 : BitVec 32 := 1#32
  let arg8 : BitVec 32 := Scf.iv c0_i32_89 c1_i32_91 k0_t6
  let c16_i32 : BitVec 32 := 16#32
  let v111 : BitVec 32 := Scalar.muli arg8 c16_i32
  let v129 : Index := Scalar.indexCast v111
  ![4, v129.toNat]
def k0_off35 (k0_t6 : Fin k0_t6_loop.trips) : Fin 2 → Nat :=
  let c5_i32 : BitVec 32 := 5#32
  let v132 : Index := Scalar.indexCast c5_i32
  let c0_i32_89 : BitVec 32 := 0#32
  let c1_i32_91 : BitVec 32 := 1#32
  let arg8 : BitVec 32 := Scf.iv c0_i32_89 c1_i32_91 k0_t6
  let c16_i32 : BitVec 32 := 16#32
  let v111 : BitVec 32 := Scalar.muli arg8 c16_i32
  let v133 : Index := Scalar.indexCast v111
  ![5, v133.toNat]
def k0_off36 (k0_t6 : Fin k0_t6_loop.trips) : Fin 2 → Nat :=
  let c6_i32 : BitVec 32 := 6#32
  let v136 : Index := Scalar.indexCast c6_i32
  let c0_i32_89 : BitVec 32 := 0#32
  let c1_i32_91 : BitVec 32 := 1#32
  let arg8 : BitVec 32 := Scf.iv c0_i32_89 c1_i32_91 k0_t6
  let c16_i32 : BitVec 32 := 16#32
  let v111 : BitVec 32 := Scalar.muli arg8 c16_i32
  let v137 : Index := Scalar.indexCast v111
  ![6, v137.toNat]
def k0_off37 (k0_t6 : Fin k0_t6_loop.trips) : Fin 2 → Nat :=
  let c7_i32 : BitVec 32 := 7#32
  let v140 : Index := Scalar.indexCast c7_i32
  let c0_i32_89 : BitVec 32 := 0#32
  let c1_i32_91 : BitVec 32 := 1#32
  let arg8 : BitVec 32 := Scf.iv c0_i32_89 c1_i32_91 k0_t6
  let c16_i32 : BitVec 32 := 16#32
  let v111 : BitVec 32 := Scalar.muli arg8 c16_i32
  let v141 : Index := Scalar.indexCast v111
  ![7, v141.toNat]
@[reducible] def k0_t7_loop : Scf.Loop 32 :=
  let c0_i32_111 : BitVec 32 := 0#32
  let c6_i32_112 : BitVec 32 := 6#32
  let v144 : BitVec 32 := Scalar.addi c0_i32_111 c6_i32_112
  let c1_i32_113 : BitVec 32 := 1#32
  ⟨c0_i32_111, v144, c1_i32_113⟩
def k0_off38 (k0_t6 : Fin k0_t6_loop.trips) (k0_t7 : Fin k0_t7_loop.trips) (c0_i32_124 : BitVec 32) : Fin 3 → Nat :=
  let c0_i32_125 : BitVec 32 := 0#32
  let v188 : Index := Scalar.indexCast c0_i32_125
  let c0_i32_111 : BitVec 32 := 0#32
  let c1_i32_113 : BitVec 32 := 1#32
  let arg9 : BitVec 32 := Scf.iv c0_i32_111 c1_i32_113 k0_t7
  let c8_i32_123 : BitVec 32 := 8#32
  let v186 : BitVec 32 := Scalar.muli arg9 c8_i32_123
  let v187 : BitVec 32 := Scalar.addi v186 c0_i32_124
  let v189 : Index := Scalar.indexCast v187
  let c0_i32_89 : BitVec 32 := 0#32
  let c1_i32_91 : BitVec 32 := 1#32
  let arg8 : BitVec 32 := Scf.iv c0_i32_89 c1_i32_91 k0_t6
  let c16_i32 : BitVec 32 := 16#32
  let v111 : BitVec 32 := Scalar.muli arg8 c16_i32
  let v190 : Index := Scalar.indexCast v111
  ![0, v189.toNat, v190.toNat]
@[reducible] def k0_t8_loop : Scf.Loop 32 :=
  let c0_i32_103 : BitVec 32 := 0#32
  let c64_i32_104 : BitVec 32 := 64#32
  let v110 : BitVec 32 := Scalar.addi c0_i32_103 c64_i32_104
  let c1_i32_105 : BitVec 32 := 1#32
  ⟨c0_i32_103, v110, c1_i32_105⟩
def k0_off39 (k0_t8 : Fin k0_t8_loop.trips) : Fin 2 → Nat :=
  let c0_i32_107 : BitVec 32 := 0#32
  let v112 : Index := Scalar.indexCast c0_i32_107
  let c0_i32_103 : BitVec 32 := 0#32
  let c1_i32_105 : BitVec 32 := 1#32
  let arg8 : BitVec 32 := Scf.iv c0_i32_103 c1_i32_105 k0_t8
  let c16_i32 : BitVec 32 := 16#32
  let v111 : BitVec 32 := Scalar.muli arg8 c16_i32
  let v113 : Index := Scalar.indexCast v111
  ![0, v113.toNat]
def k0_off40 (k0_t8 : Fin k0_t8_loop.trips) : Fin 2 → Nat :=
  let c1_i32_108 : BitVec 32 := 1#32
  let v116 : Index := Scalar.indexCast c1_i32_108
  let c0_i32_103 : BitVec 32 := 0#32
  let c1_i32_105 : BitVec 32 := 1#32
  let arg8 : BitVec 32 := Scf.iv c0_i32_103 c1_i32_105 k0_t8
  let c16_i32 : BitVec 32 := 16#32
  let v111 : BitVec 32 := Scalar.muli arg8 c16_i32
  let v117 : Index := Scalar.indexCast v111
  ![1, v117.toNat]
def k0_off41 (k0_t8 : Fin k0_t8_loop.trips) : Fin 2 → Nat :=
  let c2_i32_109 : BitVec 32 := 2#32
  let v120 : Index := Scalar.indexCast c2_i32_109
  let c0_i32_103 : BitVec 32 := 0#32
  let c1_i32_105 : BitVec 32 := 1#32
  let arg8 : BitVec 32 := Scf.iv c0_i32_103 c1_i32_105 k0_t8
  let c16_i32 : BitVec 32 := 16#32
  let v111 : BitVec 32 := Scalar.muli arg8 c16_i32
  let v121 : Index := Scalar.indexCast v111
  ![2, v121.toNat]
def k0_off42 (k0_t8 : Fin k0_t8_loop.trips) : Fin 2 → Nat :=
  let c3_i32_110 : BitVec 32 := 3#32
  let v124 : Index := Scalar.indexCast c3_i32_110
  let c0_i32_103 : BitVec 32 := 0#32
  let c1_i32_105 : BitVec 32 := 1#32
  let arg8 : BitVec 32 := Scf.iv c0_i32_103 c1_i32_105 k0_t8
  let c16_i32 : BitVec 32 := 16#32
  let v111 : BitVec 32 := Scalar.muli arg8 c16_i32
  let v125 : Index := Scalar.indexCast v111
  ![3, v125.toNat]
def k0_off43 (k0_t8 : Fin k0_t8_loop.trips) : Fin 2 → Nat :=
  let c4_i32 : BitVec 32 := 4#32
  let v128 : Index := Scalar.indexCast c4_i32
  let c0_i32_103 : BitVec 32 := 0#32
  let c1_i32_105 : BitVec 32 := 1#32
  let arg8 : BitVec 32 := Scf.iv c0_i32_103 c1_i32_105 k0_t8
  let c16_i32 : BitVec 32 := 16#32
  let v111 : BitVec 32 := Scalar.muli arg8 c16_i32
  let v129 : Index := Scalar.indexCast v111
  ![4, v129.toNat]
def k0_off44 (k0_t8 : Fin k0_t8_loop.trips) : Fin 2 → Nat :=
  let c5_i32 : BitVec 32 := 5#32
  let v132 : Index := Scalar.indexCast c5_i32
  let c0_i32_103 : BitVec 32 := 0#32
  let c1_i32_105 : BitVec 32 := 1#32
  let arg8 : BitVec 32 := Scf.iv c0_i32_103 c1_i32_105 k0_t8
  let c16_i32 : BitVec 32 := 16#32
  let v111 : BitVec 32 := Scalar.muli arg8 c16_i32
  let v133 : Index := Scalar.indexCast v111
  ![5, v133.toNat]
def k0_off45 (k0_t8 : Fin k0_t8_loop.trips) : Fin 2 → Nat :=
  let c6_i32 : BitVec 32 := 6#32
  let v136 : Index := Scalar.indexCast c6_i32
  let c0_i32_103 : BitVec 32 := 0#32
  let c1_i32_105 : BitVec 32 := 1#32
  let arg8 : BitVec 32 := Scf.iv c0_i32_103 c1_i32_105 k0_t8
  let c16_i32 : BitVec 32 := 16#32
  let v111 : BitVec 32 := Scalar.muli arg8 c16_i32
  let v137 : Index := Scalar.indexCast v111
  ![6, v137.toNat]
def k0_off46 (k0_t8 : Fin k0_t8_loop.trips) : Fin 2 → Nat :=
  let c7_i32 : BitVec 32 := 7#32
  let v140 : Index := Scalar.indexCast c7_i32
  let c0_i32_103 : BitVec 32 := 0#32
  let c1_i32_105 : BitVec 32 := 1#32
  let arg8 : BitVec 32 := Scf.iv c0_i32_103 c1_i32_105 k0_t8
  let c16_i32 : BitVec 32 := 16#32
  let v111 : BitVec 32 := Scalar.muli arg8 c16_i32
  let v141 : Index := Scalar.indexCast v111
  ![7, v141.toNat]
@[reducible] def k0_t9_loop : Scf.Loop 32 :=
  let c0_i32_111 : BitVec 32 := 0#32
  let c6_i32_112 : BitVec 32 := 6#32
  let v144 : BitVec 32 := Scalar.addi c0_i32_111 c6_i32_112
  let c1_i32_113 : BitVec 32 := 1#32
  ⟨c0_i32_111, v144, c1_i32_113⟩
def k0_off47 (k0_t8 : Fin k0_t8_loop.trips) (k0_t9 : Fin k0_t9_loop.trips) (c0_i32_124 : BitVec 32) : Fin 3 → Nat :=
  let c1_i32_125 : BitVec 32 := 1#32
  let v188 : Index := Scalar.indexCast c1_i32_125
  let c0_i32_111 : BitVec 32 := 0#32
  let c1_i32_113 : BitVec 32 := 1#32
  let arg9 : BitVec 32 := Scf.iv c0_i32_111 c1_i32_113 k0_t9
  let c8_i32_123 : BitVec 32 := 8#32
  let v186 : BitVec 32 := Scalar.muli arg9 c8_i32_123
  let v187 : BitVec 32 := Scalar.addi v186 c0_i32_124
  let v189 : Index := Scalar.indexCast v187
  let c0_i32_103 : BitVec 32 := 0#32
  let c1_i32_105 : BitVec 32 := 1#32
  let arg8 : BitVec 32 := Scf.iv c0_i32_103 c1_i32_105 k0_t8
  let c16_i32 : BitVec 32 := 16#32
  let v111 : BitVec 32 := Scalar.muli arg8 c16_i32
  let v190 : Index := Scalar.indexCast v111
  ![1, v189.toNat, v190.toNat]
def k0_off48 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32_107_r0 : BitVec 32 := 0#32
  let c0_i32_108_r0 : BitVec 32 := 0#32
  ![v18.toNat, v28.toNat, 0, 0]
abbrev grid1 : Pipeline.Grid := ⟨2, ![4, 8], ![false, false]⟩

@[reducible] def k1_t1_loop : Scf.Loop 32 :=
  let c0_i32 : BitVec 32 := 0#32
  let c40_i32 : BitVec 32 := 40#32
  let v8 : BitVec 32 := Scalar.addi c0_i32 c40_i32
  let c1_i32 : BitVec 32 := 1#32
  ⟨c0_i32, v8, c1_i32⟩
def k1_off1 (k1_t1 : Fin k1_t1_loop.trips) (c0_i32_39 : BitVec 32) : Fin 3 → Nat :=
  let c0_40 : Index := 0#32
  let c0_i32 : BitVec 32 := 0#32
  let c1_i32 : BitVec 32 := 1#32
  let arg4 : BitVec 32 := Scf.iv c0_i32 c1_i32 k1_t1
  let c64_i32_38 : BitVec 32 := 64#32
  let v109 : BitVec 32 := Scalar.muli arg4 c64_i32_38
  let v110 : BitVec 32 := Scalar.addi v109 c0_i32_39
  let v111 : Index := Scalar.indexCast v110
  let c0_41 : Index := 0#32
  ![0, v111.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2560x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := .none

abbrev stage2_0 : Fin 1 → Memref sig .tc .vmem S4x8x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S4x64x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S4x1024x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x1024 : Shape := ⟨3, ![4, 4096, 1024]⟩
abbrev S4x1024x4096 : Shape := ⟨3, ![4, 1024, 4096]⟩
abbrev S4x1024x8 : Shape := ⟨3, ![4, 1024, 8]⟩
abbrev S4x8192 : Shape := ⟨2, ![4, 8192]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024x4096, .f32⟩
  | .hbm, ⟨2, _⟩ => ⟨S4x1024x8, .f32⟩
  | .hbm, ⟨3, _⟩ => ⟨S4x1024x8, .i32⟩
  | .hbm, ⟨4, _⟩ => ⟨S4x8192, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_values : Ref sig .tc := ⟨.hbm, 2, rfl⟩
abbrev main_indices : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Net.lean ====
/- The comparator networks of the kernel, over any type with a `max` and a `min`. -/
module

public import Idealize.ShloMosaic.PureOps
public import Mathlib.Data.EReal.Basic

@[expose] public section

noncomputable section

namespace Cert.TopEight

/-! ## Networks -/

section Net

variable {α β : Type}

/-- One comparator between places `p.1` and `p.2`: the larger value goes to `p.1`, the smaller to `p.2`. -/
def exch (mx mn : α → α → α) (v : Fin 8 → α) (p : Fin 8 × Fin 8) : Fin 8 → α := fun k =>
  if k = p.1 then mx (v p.1) (v p.2) else if k = p.2 then mn (v p.1) (v p.2) else v k

/-- A list of comparators run in order. -/
def runNet (mx mn : α → α → α) (net : List (Fin 8 × Fin 8)) (v : Fin 8 → α) : Fin 8 → α := net.foldl (exch mx mn) v

/-- The nineteen comparators that sort eight values downwards. -/
def sortNet : List (Fin 8 × Fin 8) :=
  [(0, 1), (2, 3), (4, 5), (6, 7), (0, 2), (1, 3), (4, 6), (5, 7), (1, 2), (5, 6), (0, 4), (1, 5), (2, 6), (3, 7), (2, 4), (3, 5),
    (1, 2), (3, 4), (5, 6)]

/-- The twelve comparators that sort a bitonic run of eight values downwards. -/
def cleanNet : List (Fin 8 × Fin 8) :=
  [(0, 4), (1, 5), (2, 6), (3, 7), (0, 2), (1, 3), (4, 6), (5, 7), (0, 1), (2, 3), (4, 5), (6, 7)]

/-- The kernel's step: eight new values are sorted, the running eight are compared with them back to front, and what is
    left is sorted again. -/
def step (mx mn : α → α → α) (r v : Fin 8 → α) : Fin 8 → α :=
  runNet mx mn cleanNet fun k => mx (r k) (runNet mx mn sortNet v (Fin.rev k))

end Net

section Blocks

variable {α β : Type}

/-- The running eight after the first `n` blocks of eight rows of `x`, from `r`. -/
def stepN (mx mn : α → α → α) (r : Fin 8 → α) (x : ℕ → α) : ℕ → Fin 8 → α
  | 0 => r
  | n + 1 => step mx mn (stepN mx mn r x n) fun j => x (8 * n + j.val)

/-- A map that takes one pair of operations to another takes a comparator to a comparator, -/
theorem exch_map (φ : α → β) {mx mn : α → α → α} {mx' mn' : β → β → β} (hx : ∀ a b, φ (mx a b) = mx' (φ a) (φ b))
    (hn : ∀ a b, φ (mn a b) = mn' (φ a) (φ b)) (v : Fin 8 → α) (p : Fin 8 × Fin 8) :
    (fun k => φ (exch mx mn v p k)) = exch mx' mn' (fun k => φ (v k)) p := by
  funext k
  unfold exch
  split
  · exact hx _ _
  · split
    · exact hn _ _
    · rfl

/-- a network to a network, -/
theorem runNet_map (φ : α → β) {mx mn : α → α → α} {mx' mn' : β → β → β} (hx : ∀ a b, φ (mx a b) = mx' (φ a) (φ b))
    (hn : ∀ a b, φ (mn a b) = mn' (φ a) (φ b)) (net : List (Fin 8 × Fin 8)) (v : Fin 8 → α) :
    (fun k => φ (runNet mx mn net v k)) = runNet mx' mn' net fun k => φ (v k) := by
  induction net generalizing v with
  | nil => rfl
  | cons p net ih => exact (ih (exch mx mn v p)).trans (congrArg (runNet mx' mn' net) (exch_map φ hx hn v p))

/-- a step to a step, -/
theorem step_map (φ : α → β) {mx mn : α → α → α} {mx' mn' : β → β → β} (hx : ∀ a b, φ (mx a b) = mx' (φ a) (φ b))
    (hn : ∀ a b, φ (mn a b) = mn' (φ a) (φ b)) (r v : Fin 8 → α) :
    (fun k => φ (step mx mn r v k)) = step mx' mn' (fun k => φ (r k)) fun k => φ (v k) := by
  unfold step
  rw [runNet_map φ hx hn]
  refine congrArg _ (funext fun k => ?_)
  rw [hx]
  exact congrArg _ (congrFun (runNet_map φ hx hn sortNet v) (Fin.rev k))

/-- and a run of steps to a run of steps. -/
theorem stepN_map (φ : α → β) {mx mn : α → α → α} {mx' mn' : β → β → β} (hx : ∀ a b, φ (mx a b) = mx' (φ a) (φ b))
    (hn : ∀ a b, φ (mn a b) = mn' (φ a) (φ b)) (r : Fin 8 → α) (x : ℕ → α) :
    ∀ n, (fun k => φ (stepN mx mn r x n k)) = stepN mx' mn' (fun k => φ (r k)) (fun j => φ (x j)) n
  | 0 => rfl
  | n + 1 => (step_map φ hx hn _ _).trans (congrArg (fun t => step mx' mn' t _) (stepN_map φ hx hn r x n))

/-- Steps over `m` blocks, then over `n` more, are steps over `m + n`. -/
theorem stepN_add (mx mn : α → α → α) (r : Fin 8 → α) (x : ℕ → α) (m : ℕ) :
    ∀ n, stepN mx mn (stepN mx mn r x m) (fun j => x (8 * m + j)) n = stepN mx mn r x (m + n)
  | 0 => rfl
  | n + 1 => by
    show step mx mn (stepN mx mn (stepN mx mn r x m) (fun j => x (8 * m + j)) n) (fun j => x (8 * m + (8 * n + j.val))) = _
    rw [stepN_add mx mn r x m n]
    refine congrArg (step mx mn _) (funext fun j => congrArg x ?_)
    show 8 * m + (8 * n + j.val) = 8 * (m + n) + j.val
    omega

/-- The steps read only the rows of their blocks. -/
theorem stepN_congr (mx mn : α → α → α) (r : Fin 8 → α) {x y : ℕ → α} :
    ∀ n, (∀ j < 8 * n, x j = y j) → stepN mx mn r x n = stepN mx mn r y n
  | 0, _ => rfl
  | n + 1, h => by
    show step mx mn (stepN mx mn r x n) _ = step mx mn (stepN mx mn r y n) _
    rw [stepN_congr mx mn r n fun j hj => h j (by omega)]
    exact congrArg (step mx mn _) (funext fun j => h _ (by omega))

end Blocks

end Cert.TopEight

end
-- ==== Proof.Base.lean ====
/- The launch as the run theorem sees it: the program's labels and definitions, the resource algebra with a component for
   the SparseCore call's handshakes and one for the two TensorCore pipelines, and the threads and buffers by name. -/
module

public import proofs.«01_k».proof.Defs
public import proofs.«01_k».proof.Proof.Net
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.Writes
public import proofs.«01_k».proof.Proof.Gen.KernelIdeal
public import proofs.«01_k».proof.Proof.Gen.KernelIdeal.Skeleton

@[expose] public section

noncomputable section

namespace Cert.TopEight

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels with the two pipelines' entries. -/
abbrev ΛP : Labels := Pipeline.Sig Λ₀ (Fin 2) fun p => (pcfgs (F := F) p).Adm
/-- The program's one SparseCore call. -/
abbrev K : SparseCore.Cfg τ sig (ΛP (F := F)) 1 := sc (F := F)
/-- The definitions below the SparseCore call: kernel bodies and pipelines. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake component of the resource algebra. -/
abbrev UH : Type := URounds (GSem nD τ sig) ℕ
/-- The pipelines' component. -/
abbrev UP : Type := URounds (GSem nD τ sig) Unit
/-- All user components: handshakes, pipelines, transfer counters. -/
abbrev UU : Type := UH × (UP × Counters)

/-- The resource algebra of the proof. -/
abbrev MM (F : FTy → Type) : Type := MT nD τ sig (HIx 1) (Elt F) ℕ UU ℕ

/-- The handshakes' component, embedded. -/
abbrev EH : Emb UH (MM F) := embL
/-- The pipelines' component, embedded. -/
abbrev EP : Emb UP (MM F) := (Emb.inl : Emb UP (UP × Counters)).trans embR

/-- The vector subcore that runs the tile at coordinates `L`. -/
abbrev thrV (d : Dev nD) (L : grid0.Coords) : Thread nD τ := V d ((L 0).castLE hcore0) ((L 1).castLE hsub0)

/-- The tile's two-slot input buffer. -/
abbrev bufV : Memref sig .scVector .vmem S2x48x1024 .f32 := Memref.whole cc0_scratch0
/-- The tile's running top eight. -/
abbrev rstV : Memref sig .scVector .vmem S8x1024 .f32 := Memref.whole cc0_scratch1
/-- The input array. -/
abbrev xV : Memref sig .scVector .hbm S4x4096x1024 .f32 := Memref.whole main_arg0_scv
/-- The tiles' output array. -/
abbrev oV : Memref sig .scVector .hbm S4x8x8x1024 .f32 := Memref.whole main_v0_scv

end Cert.TopEight

end
-- ==== Proof.Group.lean ====
/- One lane group of one chunk on a tile: the eight running values of sixteen columns, taken through the chunk's forty-eight
   rows eight at a time and stored back. -/
module

public import proofs.«01_k».proof.Proof.Base

@[expose] public section

set_option maxRecDepth 16384

noncomputable section

namespace Cert.TopEight

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The trip as a program -/

/-- Eight vectors as the tuple the loop carries. -/
def tup8 {α : Type} (v : Fin 8 → α) : α × α × α × α × α × α × α × α := (v 0, v 1, v 2, v 3, v 4, v 5, v 6, v 7)

/-- The running value `k` of lane group `g`: where it lies. -/
def rOff (g : Fin 64) (k : ℕ) : Fin 2 → ℕ := ![k, (Scalar.indexCast (Scalar.muli (Scf.iv 0#32 1#32 g) 16#32)).toNat]

/-- Row `8 c + j` of slot `s` at lane group `g`: where it lies. -/
def bOff (s : ℕ) (g : Fin 64) (c : Fin 6) (j : BitVec 32) : Fin 3 → ℕ :=
  ![s, (Scalar.indexCast (Scalar.addi (Scalar.muli (Scf.iv 0#32 1#32 c) 8#32) j)).toNat, (Scalar.indexCast (Scalar.muli (Scf.iv 0#32 1#32 g) 16#32)).toNat]

theorem lane_off (g : Fin 64) : (Scalar.indexCast (Scalar.muli (Scf.iv 0#32 1#32 g) 16#32)).toNat = 16 * g.val := by
  revert g; decide +kernel

theorem row_off (c : Fin 6) (j : Fin 8) :
    (Scalar.indexCast (Scalar.addi (Scalar.muli (Scf.iv 0#32 1#32 c) 8#32) (BitVec.ofNat 32 j.val))).toNat = 8 * c.val + j.val := by
  revert c j; decide +kernel

theorem rOff_eq (g : Fin 64) (k : Fin 8) : rOff g k.val = ![k.val, 16 * g.val] := by
  unfold rOff; rw [lane_off]

theorem bOff_eq (s : Fin 2) (g : Fin 64) (c : Fin 6) (j : Fin 8) :
    bOff s.val g c (BitVec.ofNat 32 j.val) = ![s.val, 8 * c.val + j.val, 16 * g.val] := by
  unfold bOff; rw [lane_off, row_off]

theorem rOff_inb (g : Fin 64) (k : Fin 8) : ∀ a, rOff g k.val a + S1x16.size a ≤ S8x1024.size a := by
  rw [rOff_eq]
  intro a
  fin_cases a
  · show k.val + 1 ≤ 8; omega
  · show 16 * g.val + 16 ≤ 1024; omega

theorem bOff_inb (s : Fin 2) (g : Fin 64) (c : Fin 6) (j : Fin 8) :
    ∀ a, bOff s.val g c (BitVec.ofNat 32 j.val) a + S1x1x16.size a ≤ S2x48x1024.size a := by
  rw [bOff_eq]
  intro a
  fin_cases a
  · show s.val + 1 ≤ 2; omega
  · show 8 * c.val + j.val + 1 ≤ 48; omega
  · show 16 * g.val + 16 ≤ 1024; omega

abbrev rRect (g : Fin 64) (k : Fin 8) : Rect S8x1024 := Rect.unit (s := S8x1024) (rOff g k.val) S1x16.size (rOff_inb g k)
abbrev bRect (s : Fin 2) (g : Fin 64) (c : Fin 6) (j : Fin 8) : Rect S2x48x1024 :=
  Rect.unit (s := S2x48x1024) (bOff s.val g c (BitVec.ofNat 32 j.val)) S1x1x16.size (bOff_inb s g c j)

section Trip

variable (i : grid0.Coords) (arg4 : Memref sig .scVector .vmem S2x48x1024 .f32) (arg5 : Memref sig .scVector .vmem S8x1024 .f32)

/-- One running value loaded. -/
def ldR (g : Fin 64) (k : Fin 8) : Prog (TpuEff nD τ sig (Elt F) Λ₀ (.scVector ((i 0).castLE hcore0) ((i 1).castLE hsub0))) (Vec F S1x16 .f32) :=
  Prog.lift (.load arg5 (rRect g k).toLoadRect (View.loadsAt_vmem h_S1x16))

/-- One row's sixteen lanes loaded. -/
def ldB (s : Fin 2) (g : Fin 64) (c : Fin 6) (j : Fin 8) :
    Prog (TpuEff nD τ sig (Elt F) Λ₀ (.scVector ((i 0).castLE hcore0) ((i 1).castLE hsub0))) (Vec F S1x1x16 .f32) :=
  Prog.lift (.load arg4 (bRect s g c j).toLoadRect (View.loadsAt_vmem h_S1x1x16))

/-- One running value stored. -/
def stR (g : Fin 64) (k : Fin 8) (v : FVec F S16 .f32) :
    Prog (TpuEff nD τ sig (Elt F) Λ₀ (.scVector ((i 0).castLE hcore0) ((i 1).castLE hsub0))) PUnit :=
  Prog.lift (.store arg5 (rRect g k) (shapeCast S1x16 v shapeCasts_S16_S1x16) Finset.univ (View.stores_vmem_bits_univ h_S1x16 rfl) (.inl rfl))

def sB (v : Vec F S1x1x16 .f32) : FVec F S16 .f32 := shapeCast S16 v shapeCasts_S1x1x16_S16
def sR (v : Vec F S1x16 .f32) : FVec F S16 .f32 := shapeCast S16 v shapeCasts_S1x16_S16

/-- Eight rows taken into the running eight. -/
def rowsTrip (s : Fin 2) (g : Fin 64) (c : Fin 6)
    (acc : FVec F S16 .f32 × FVec F S16 .f32 × FVec F S16 .f32 × FVec F S16 .f32 × FVec F S16 .f32 × FVec F S16 .f32 × FVec F S16 .f32 × FVec F S16 .f32) :
    Prog (TpuEff nD τ sig (Elt F) Λ₀ (.scVector ((i 0).castLE hcore0) ((i 1).castLE hsub0)))
      (FVec F S16 .f32 × FVec F S16 .f32 × FVec F S16 .f32 × FVec F S16 .f32 × FVec F S16 .f32 × FVec F S16 .f32 × FVec F S16 .f32 × FVec F S16 .f32) := do
  let b0 ← ldB i arg4 s g c 0
  let b1 ← ldB i arg4 s g c 1
  let b2 ← ldB i arg4 s g c 2
  let b3 ← ldB i arg4 s g c 3
  let b4 ← ldB i arg4 s g c 4
  let b5 ← ldB i arg4 s g c 5
  let b6 ← ldB i arg4 s g c 6
  let b7 ← ldB i arg4 s g c 7
  pure (tup8 (step maximumf minimumf ![acc.1, acc.2.1, acc.2.2.1, acc.2.2.2.1, acc.2.2.2.2.1, acc.2.2.2.2.2.1, acc.2.2.2.2.2.2.1, acc.2.2.2.2.2.2.2]
    ![sB b0, sB b1, sB b2, sB b3, sB b4, sB b5, sB b6, sB b7]))

/-- The lane group's trip: the running eight loaded, the chunk's six blocks of eight rows taken into them, the eight stored. -/
def grpTrip (s : Fin 2) (g : Fin 64) : Prog (TpuEff nD τ sig (Elt F) Λ₀ (.scVector ((i 0).castLE hcore0) ((i 1).castLE hsub0))) Unit := do
  let a0 ← ldR i arg5 g 0
  let a1 ← ldR i arg5 g 1
  let a2 ← ldR i arg5 g 2
  let a3 ← ldR i arg5 g 3
  let a4 ← ldR i arg5 g 4
  let a5 ← ldR i arg5 g 5
  let a6 ← ldR i arg5 g 6
  let a7 ← ldR i arg5 g 7
  let r ← Scf.Loop.for k0_t3_loop k0_t3_ok (sR a0, sR a1, sR a2, sR a3, sR a4, sR a5, sR a6, sR a7) (rowsTrip i arg4 s g)
  let _ ← ldR i arg5 g 0
  stR i arg5 g 0 r.1
  let _ ← ldR i arg5 g 1
  stR i arg5 g 1 r.2.1
  let _ ← ldR i arg5 g 2
  stR i arg5 g 2 r.2.2.1
  let _ ← ldR i arg5 g 3
  stR i arg5 g 3 r.2.2.2.1
  let _ ← ldR i arg5 g 4
  stR i arg5 g 4 r.2.2.2.2.1
  let _ ← ldR i arg5 g 5
  stR i arg5 g 5 r.2.2.2.2.2.1
  let _ ← ldR i arg5 g 6
  stR i arg5 g 6 r.2.2.2.2.2.2.1
  let _ ← ldR i arg5 g 7
  stR i arg5 g 7 r.2.2.2.2.2.2.2
  pure ⟨⟩

end Trip

section Same

variable (i : grid0.Coords) (arg2 : Memref sig .scVector .hbm S4x4096x1024 .f32) (harg2 : arg2.IsWhole) (arg3 : Memref sig .scVector .hbm S4x8x8x1024 .f32) (harg3 : arg3.IsWhole) (arg4 : Memref sig .scVector .vmem S2x48x1024 .f32) (harg4 : arg4.IsWhole) (arg5 : Memref sig .scVector .vmem S8x1024 .f32) (harg5 : arg5.IsWhole) (arg6 : DmaSems sig S_) (arg7 : DmaSems sig S_) (v111_r0 : DmaSems sig S_) (w w' : BitVec 32)

theorem t3_body_eq (g : Fin k0_t2_loop.trips) (u0 u1 u2 : BitVec 32) :
    k0_t3_body (F := F) i arg2 harg2 arg3 harg3 arg4 harg4 arg5 harg5 arg6 arg7 v111_r0 u0 u1 g u2 = rowsTrip i arg4 0 g :=
  funext fun c => funext fun acc => by with_unfolding_all rfl

/-- The first chunk's trips are the lane group's trip at slot 0. -/
theorem t2_body_eq (g : Fin k0_t2_loop.trips) :
    k0_t2_body (F := F) i arg2 harg2 arg3 harg3 arg4 harg4 arg5 harg5 arg6 arg7 v111_r0 w g () = grpTrip i arg4 arg5 0 g := by
  unfold k0_t2_body grpTrip
  rw [k0_part4_eq_skeleton]
  unfold k0_part4_skel
  simp only [t3_body_eq, bind_assoc, pure_bind]
  with_unfolding_all rfl

theorem t5_body_eq (g : Fin k0_t4_loop.trips) (u0 u1 u2 : BitVec 32) :
    k0_t5_body (F := F) i arg2 harg2 arg3 harg3 arg4 harg4 arg5 harg5 arg6 arg7 v111_r0 u0 u1 g u2 = rowsTrip i arg4 1 g :=
  funext fun c => funext fun acc => by with_unfolding_all rfl

/-- The second chunk's trips are the lane group's trip at slot 1. -/
theorem t4_body_eq (g : Fin k0_t4_loop.trips) :
    k0_t4_body (F := F) i arg2 harg2 arg3 harg3 arg4 harg4 arg5 harg5 arg6 arg7 v111_r0 w w' g () = grpTrip i arg4 arg5 1 g := by
  unfold k0_t4_body grpTrip
  rw [k0_part7_eq_skeleton]
  unfold k0_part7_skel
  simp only [t5_body_eq, bind_assoc, pure_bind]
  with_unfolding_all rfl

theorem t7_body_eq (g : Fin k0_t6_loop.trips) (u0 u1 u2 : BitVec 32) :
    k0_t7_body (F := F) i arg2 harg2 arg3 harg3 arg4 harg4 arg5 harg5 arg6 arg7 v111_r0 u0 u1 g u2 = rowsTrip i arg4 0 g :=
  funext fun c => funext fun acc => by with_unfolding_all rfl

/-- The third chunk's trips are the lane group's trip at slot 0. -/
theorem t6_body_eq (g : Fin k0_t6_loop.trips) :
    k0_t6_body (F := F) i arg2 harg2 arg3 harg3 arg4 harg4 arg5 harg5 arg6 arg7 v111_r0  g () = grpTrip i arg4 arg5 0 g := by
  unfold k0_t6_body grpTrip
  rw [k0_part10_eq_skeleton]
  unfold k0_part10_skel
  simp only [t7_body_eq, bind_assoc, pure_bind]
  with_unfolding_all rfl

theorem t9_body_eq (g : Fin k0_t8_loop.trips) (u0 u1 u2 : BitVec 32) :
    k0_t9_body (F := F) i arg2 harg2 arg3 harg3 arg4 harg4 arg5 harg5 arg6 arg7 v111_r0 u0 u1 g u2 = rowsTrip i arg4 1 g :=
  funext fun c => funext fun acc => by with_unfolding_all rfl

/-- The last chunk's trips are the lane group's trip at slot 1. -/
theorem t8_body_eq (g : Fin k0_t8_loop.trips) :
    k0_t8_body (F := F) i arg2 harg2 arg3 harg3 arg4 harg4 arg5 harg5 arg6 arg7 v111_r0 w g () = grpTrip i arg4 arg5 1 g := by
  unfold k0_t8_body grpTrip
  rw [k0_part13_eq_skeleton]
  unfold k0_part13_skel
  simp only [t9_body_eq, bind_assoc, pure_bind]
  with_unfolding_all rfl

end Same

end Cert.TopEight

end
-- ==== Proof.Trip.lean ====
/- What a lane group's trip leaves: the running eight of its sixteen columns, taken through the forty-eight rows of the slot. -/
module

public import proofs.«01_k».proof.Proof.Group
public import Idealize.ShloMosaic.Lib.Pointwise

@[expose] public section

set_option maxRecDepth 16384

noncomputable section

namespace Cert.TopEight

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## Where the trip reads and writes -/

/-- Row `r`, column `l` of slot `s`. -/
def bIx (s : Fin 2) (r l : ℕ) : S2x48x1024.Idx := ix3 s (Fin.ofNat 48 r) (Fin.ofNat 1024 l)
/-- Running value `k` of column `l`. -/
def rIx (k : Fin 8) (l : ℕ) : S8x1024.Idx := ix2 k (Fin.ofNat 1024 l)

/-- The sixteen lanes of a row as loaded. -/
theorem sB_read (s : Fin 2) (g : Fin 64) (c : Fin 6) (j : Fin 8) (B : S2x48x1024.Idx → F .f32) :
    sB (F := F) (fun x => B ((bRect s g c j).toLoadRect.idx x)) = fun l => B (bIx s (8 * c.val + j.val) (16 * g.val + (l 0).val)) := by
  funext l
  idx_vars l
  unfold sB bIx
  pointwise
  have h := bOff_eq s g c j
  refine congrArg B (congr (congr (congrArg ix3 (Fin.ext ?_)) (Fin.ext ?_)) (Fin.ext ?_))
  · exact congrFun h 0
  · refine (congrFun h 1).trans (Nat.mod_eq_of_lt ?_).symm
    show 8 * c.val + j.val < 48; omega
  · refine (congrArg (· + l0.val) (congrFun h 2)).trans (Nat.mod_eq_of_lt ?_).symm
    show 16 * g.val + l0.val < 1024; omega

/-- The sixteen lanes of a running value as loaded. -/
theorem sR_read (g : Fin 64) (k : Fin 8) (R : S8x1024.Idx → F .f32) :
    sR (F := F) (fun x => R ((rRect g k).toLoadRect.idx x)) = fun l => R (rIx k (16 * g.val + (l 0).val)) := by
  funext l
  idx_vars l
  unfold sR rIx
  pointwise
  have h := rOff_eq g k
  refine congrArg R (congr (congrArg ix2 (Fin.ext ?_)) (Fin.ext ?_))
  · exact congrFun h 0
  · refine (congrArg (· + l0.val) (congrFun h 1)).trans (Nat.mod_eq_of_lt ?_).symm
    show 16 * g.val + l0.val < 1024; omega

/-! ## The memory operations at the head of a program -/

section Ops

variable (d : Dev nD) (L : grid0.Coords) {α : Type} {Q : α → sProp (MM F)}

theorem wp_ldB (s : Fin 2) (g : Fin 64) (c : Fin 6) (j : Fin 8) (S : Finset S2x48x1024.Idx) (hS : ∀ y : S2x48x1024.Idx, y 0 = s → y ∈ S) (q : PosShare TreeShare)
    (B : S2x48x1024.Idx → F .f32) (k : Vec F S1x1x16 .f32 → Prog (TpuEff nD τ sig (Elt F) Λ₀ (.scVector ((L 0).castLE hcore0) ((L 1).castLE hsub0))) α) :
    (bufV.view.loc (thrV d L) ↦[S]{q} B : sProp 𝕄)
      ⊢ iprop(((bufV.view.loc (thrV d L) ↦[S]{q} B) -∗ wp frame (wpE (defs₀ (F := F)) 𝒱₀ (thrV d L) none) Set.univ
            (k fun x => B ((bRect s g c j).toLoadRect.idx x)) Q)
        -∗ wp frame (wpE (defs₀ (F := F)) 𝒱₀ (thrV d L) none) Set.univ (ldB L bufV s g c j >>= k) Q) := by
  refine wp_load (m := bufV) (r := (bRect s g c j).toLoadRect) 𝒱₀ (thrV d L) none Set.univ ?_
  intro y hy
  obtain ⟨z, hz, rfl⟩ := Finset.mem_map.mp hy
  refine hS _ ?_
  obtain ⟨i, hi, e⟩ := ((bRect s g c j).toLoadRect.mem_set.mp hz) 0
  have h0 : (z 0).val = s.val := by
    have hi' : i < 1 := hi
    rw [e]
    show bOff s.val g c (BitVec.ofNat 32 j.val) 0 + 1 * i = _
    rw [bOff_eq]
    show s.val + 1 * i = _
    omega
  exact Fin.ext h0

theorem wp_ldR (g : Fin 64) (k : Fin 8)
    (R : S8x1024.Idx → F .f32) (kk : Vec F S1x16 .f32 → Prog (TpuEff nD τ sig (Elt F) Λ₀ (.scVector ((L 0).castLE hcore0) ((L 1).castLE hsub0))) α) :
    (rstV.view.loc (thrV d L) ↦{fullShare} R : sProp 𝕄)
      ⊢ iprop(((rstV.view.loc (thrV d L) ↦{fullShare} R) -∗ wp frame (wpE (defs₀ (F := F)) 𝒱₀ (thrV d L) none) Set.univ
            (kk fun x => R ((rRect g k).toLoadRect.idx x)) Q)
        -∗ wp frame (wpE (defs₀ (F := F)) 𝒱₀ (thrV d L) none) Set.univ (ldR L rstV g k >>= kk) Q) :=
  wp_load (m := rstV) (r := (rRect g k).toLoadRect) 𝒱₀ (thrV d L) none Set.univ (Finset.subset_univ _)

theorem wp_stR (g : Fin 64) (k : Fin 8) (R : S8x1024.Idx → F .f32) (P : List (View.Piece (Elt F) S8x1024 .f32)) (v : FVec F S16 .f32)
    (kk : PUnit → Prog (TpuEff nD τ sig (Elt F) Λ₀ (.scVector ((L 0).castLE hcore0) ((L 1).castLE hsub0))) α) :
    (rstV.view.loc (thrV d L) ↦{fullShare} rstV.view.writes (Elt F) R P : sProp 𝕄)
      ⊢ iprop(((rstV.view.loc (thrV d L) ↦{fullShare} rstV.view.writes (Elt F) R (⟨rRect g k, shapeCast S1x16 v shapeCasts_S16_S1x16⟩ :: P)) -∗
            wp frame (wpE (defs₀ (F := F)) 𝒱₀ (thrV d L) none) Set.univ (kk ⟨⟩) Q)
        -∗ wp frame (wpE (defs₀ (F := F)) 𝒱₀ (thrV d L) none) Set.univ (stR L rstV g k v >>= kk) Q) :=
  wp_store_writes (m := rstV) 𝒱₀ (thrV d L) none Set.univ (Finset.subset_univ _)

/-- Eight vectors out of the tuple the loop carries. -/
def untup8 {β : Type} (a : β × β × β × β × β × β × β × β) : Fin 8 → β :=
  ![a.1, a.2.1, a.2.2.1, a.2.2.2.1, a.2.2.2.2.1, a.2.2.2.2.2.1, a.2.2.2.2.2.2.1, a.2.2.2.2.2.2.2]

/-- Row `r` of slot `s` at lane group `g`, as a vector of sixteen lanes. -/
def rowV (B : S2x48x1024.Idx → F .f32) (s : Fin 2) (g : Fin 64) (r : ℕ) : FVec F S16 .f32 := fun l => B (bIx s r (16 * g.val + (l 0).val))

/-- Eight rows taken into the running eight. -/
theorem wp_rowsTrip (s : Fin 2) (g : Fin 64) (c : Fin 6) (S : Finset S2x48x1024.Idx) (hS : ∀ y : S2x48x1024.Idx, y 0 = s → y ∈ S) (q : PosShare TreeShare)
    (B : S2x48x1024.Idx → F .f32) (acc) :
    (bufV.view.loc (thrV d L) ↦[S]{q} B : sProp 𝕄)
      ⊢ wp frame (wpE (defs₀ (F := F)) 𝒱₀ (thrV d L) none) Set.univ (rowsTrip L bufV s g c acc) fun r =>
          iprop(⌜r = tup8 (step maximumf minimumf (untup8 acc) fun j => rowV B s g (8 * c.val + j.val))⌝ ∗ (bufV.view.loc (thrV d L) ↦[S]{q} B)) := by
  unfold rowsTrip
  iintro H
  iapply (wp_ldB d L s g c 0 S hS q B) $$ H; iintro H
  iapply (wp_ldB d L s g c 1 S hS q B) $$ H; iintro H
  iapply (wp_ldB d L s g c 2 S hS q B) $$ H; iintro H
  iapply (wp_ldB d L s g c 3 S hS q B) $$ H; iintro H
  iapply (wp_ldB d L s g c 4 S hS q B) $$ H; iintro H
  iapply (wp_ldB d L s g c 5 S hS q B) $$ H; iintro H
  iapply (wp_ldB d L s g c 6 S hS q B) $$ H; iintro H
  iapply (wp_ldB d L s g c 7 S hS q B) $$ H; iintro H
  simp only [sB_read]
  rw [show (pure : _ → Prog (TpuEff nD τ sig (Elt F) Λ₀ (.scVector ((L 0).castLE hcore0) ((L 1).castLE hsub0))) _) = Prog.ret from rfl, wp_ret]
  imodintro
  isplitr
  · ipureintro
    refine congrArg tup8 (congrArg (step maximumf minimumf _) (funext fun j => ?_))
    fin_cases j <;> rfl
  · iexact H

/-- The rows of slot `s` at column `l`. -/
def colB (B : S2x48x1024.Idx → F .f32) (s : Fin 2) (l : ℕ) (r : ℕ) : F .f32 := B (bIx s r l)
/-- The running eight of column `l`. -/
def colR (R : S8x1024.Idx → F .f32) (l : ℕ) (k : Fin 8) : F .f32 := R (rIx k l)

/-- What the trip leaves in lane group `g`'s columns, at value `k` of column `l`: the column's running eight taken through
    the slot's six blocks of eight rows. -/
def folded (B : S2x48x1024.Idx → F .f32) (R : S8x1024.Idx → F .f32) (s : Fin 2) (l : ℕ) : Fin 8 → F .f32 :=
  stepN FloatOps.maximumf FloatOps.minimumf (colR R l) (colB B s l) 6

/-- The running values after the trip: the lane group's columns folded, the others as they were. -/
def grpVal (B : S2x48x1024.Idx → F .f32) (R : S8x1024.Idx → F .f32) (s : Fin 2) (g : Fin 64) : S8x1024.Idx → F .f32 := fun y =>
  if 16 * g.val ≤ (y 1).val ∧ (y 1).val < 16 * g.val + 16 then folded B R s (y 1).val (y 0) else R y

/-- The vectors the loop carries, lane by lane. -/
theorem stepN_lane (B : S2x48x1024.Idx → F .f32) (R : S8x1024.Idx → F .f32) (s : Fin 2) (g : Fin 64) (k : Fin 8) (l : S16.Idx) :
    stepN (α := FVec F S16 .f32) maximumf minimumf (fun k l => R (rIx k (16 * g.val + (l 0).val))) (rowV B s g) 6 k l
      = folded B R s (16 * g.val + (l 0).val) k :=
  congrFun (stepN_map (fun v : FVec F S16 .f32 => v l) (mx' := FloatOps.maximumf) (mn' := FloatOps.minimumf) (fun _ _ => rfl) (fun _ _ => rfl) _ _ 6) k

theorem untup8_tup8 {β : Type} (v : Fin 8 → β) : untup8 (tup8 v) = v := by
  funext k; fin_cases k <;> rfl

/-- One stored value. -/
def piece (g : Fin 64) (w : Fin 8 → FVec F S16 .f32) (k : Fin 8) : View.Piece (Elt F) S8x1024 .f32 :=
  ⟨rRect g k, shapeCast S1x16 (w k) shapeCasts_S16_S1x16⟩

/-- The list of the eight stores, the last first. -/
def pieces (g : Fin 64) (w : Fin 8 → FVec F S16 .f32) : List (View.Piece (Elt F) S8x1024 .f32) :=
  [7, 6, 5, 4, 3, 2, 1, 0].map (piece g w)

theorem mem_pieces {g : Fin 64} {w : Fin 8 → FVec F S16 .f32} {p : View.Piece (Elt F) S8x1024 .f32} (hp : p ∈ pieces g w) :
    ∃ k : Fin 8, piece g w k = p := by
  obtain ⟨k, -, h⟩ := List.mem_map.mp hp
  exact ⟨k, h⟩

theorem pieces_mem (g : Fin 64) (w : Fin 8 → FVec F S16 .f32) (k : Fin 8) : piece g w k ∈ pieces g w :=
  List.mem_map.mpr ⟨k, by fin_cases k <;> simp, rfl⟩

theorem mem_rRect (g : Fin 64) (k : Fin 8) (y : S8x1024.Idx) : y ∈ (rRect g k).set ↔ (y 0).val = k.val ∧ 16 * g.val ≤ (y 1).val ∧ (y 1).val < 16 * g.val + 16 := by
  rw [Rect.mem_set_unit]
  rw [rOff_eq]
  constructor
  · intro h
    have h0 : k.val ≤ (y 0).val ∧ (y 0).val < k.val + 1 := h 0
    have h1 : 16 * g.val ≤ (y 1).val ∧ (y 1).val < 16 * g.val + 16 := h 1
    exact ⟨by omega, h1⟩
  · rintro ⟨h0, h1⟩ a
    fin_cases a
    · show k.val ≤ (y 0).val ∧ (y 0).val < k.val + 1
      omega
    · exact h1

/-- The eight stores leave the lane group's columns at the stored lanes and the rest alone. -/
theorem writes_pieces (g : Fin 64) (w : Fin 8 → FVec F S16 .f32) (R G : S8x1024.Idx → F .f32)
    (hin : ∀ (k : Fin 8) (l : Fin 16), G (rIx k (16 * g.val + l.val)) = w k (ix1 l))
    (hout : ∀ y : S8x1024.Idx, ¬ (16 * g.val ≤ (y 1).val ∧ (y 1).val < 16 * g.val + 16) → G y = R y) :
    rstV.view.writes (Elt F) R (pieces g w) = G := by
  funext y
  show rstV.view.read (Elt F) (rstV.view.writes (Elt F) R (pieces g w)) y = G y
  by_cases hy : 16 * g.val ≤ (y 1).val ∧ (y 1).val < 16 * g.val + 16
  · have hmem : ∃ p ∈ pieces g w, y ∈ p.1.set := ⟨piece g w (y 0), pieces_mem g w (y 0), (mem_rRect g (y 0) y).mpr ⟨rfl, hy⟩⟩
    refine View.read_writes_apply_of_pieces (Val := Elt F) rstV.view R G (pieces g w) ?_ y hmem
    intro p hp x
    obtain ⟨k, rfl⟩ := mem_pieces hp
    have x1 : (x 1).val < 16 := (x 1).isLt
    have hx : (rRect g k).emb x = rIx k (16 * g.val + (x 1).val) := by
      refine Rect.emb_eq_of_coords _ _ _ fun a => ?_
      have h := rOff_eq g k
      fin_cases a
      · show k.val = rOff g k.val 0 + 1 * (x 0).val
        have x0 : (x 0).val < 1 := (x 0).isLt
        rw [h]
        show k.val = k.val + 1 * (x 0).val
        omega
      · show (16 * g.val + (x 1).val) % 1024 = rOff g k.val 1 + 1 * (x 1).val
        rw [h]
        show (16 * g.val + (x 1).val) % 1024 = 16 * g.val + 1 * (x 1).val
        omega
    show (piece g w k).2 x = G ((rRect g k).emb x)
    rw [hx]
    refine Eq.trans ?_ (hin k ⟨(x 1).val, x1⟩).symm
    change S1x16.Idx at x
    show shapeCast S1x16 (w k) shapeCasts_S16_S1x16 x = w k (ix1 ⟨(x 1).val, x1⟩)
    clear hx
    idx_vars x
    pointwise
  · rw [View.read_writes_apply_of_forall_not_mem]
    · exact (hout y hy).symm
    · intro p hp
      obtain ⟨k, rfl⟩ := mem_pieces hp
      exact fun h => hy ((mem_rRect g k y).mp h).2

/-- The lane group's trip over slot `s`: the group's columns come back folded. -/
theorem wp_grpTrip (s : Fin 2) (g : Fin 64) (S : Finset S2x48x1024.Idx) (hS : ∀ y : S2x48x1024.Idx, y 0 = s → y ∈ S) (q : PosShare TreeShare)
    (B : S2x48x1024.Idx → F .f32) (R : S8x1024.Idx → F .f32) :
    iprop((bufV.view.loc (thrV d L) ↦[S]{q} B) ∗ (rstV.view.loc (thrV d L) ↦{fullShare} R) : sProp 𝕄)
      ⊢ wp frame (wpE (defs₀ (F := F)) 𝒱₀ (thrV d L) none) Set.univ (grpTrip L bufV rstV s g) fun _ =>
          iprop((bufV.view.loc (thrV d L) ↦[S]{q} B) ∗ (rstV.view.loc (thrV d L) ↦{fullShare} grpVal B R s g)) := by
  unfold grpTrip
  iintro ⟨HB, HR⟩
  iapply (wp_ldR d L g 0 R) $$ HR; iintro HR
  iapply (wp_ldR d L g 1 R) $$ HR; iintro HR
  iapply (wp_ldR d L g 2 R) $$ HR; iintro HR
  iapply (wp_ldR d L g 3 R) $$ HR; iintro HR
  iapply (wp_ldR d L g 4 R) $$ HR; iintro HR
  iapply (wp_ldR d L g 5 R) $$ HR; iintro HR
  iapply (wp_ldR d L g 6 R) $$ HR; iintro HR
  iapply (wp_ldR d L g 7 R) $$ HR; iintro HR
  simp only [sR_read]
  iapply (Scf.wp_for_bind frame (wpE (defs₀ (F := F)) 𝒱₀ (thrV d L) none) Set.univ _ _ _ _ _ _
    (fun n acc => iprop(⌜acc = tup8 (stepN (α := FVec F S16 .f32) maximumf minimumf (fun k l => R (rIx k (16 * g.val + (l 0).val))) (rowV B s g) n)⌝
      ∗ (bufV.view.loc (thrV d L) ↦[S]{q} B))) ?_) $$ [HB]
  · intro c acc
    iintro ⟨%hacc, HB⟩
    subst hacc
    iapply (wp_wand_r frame _ _)
    isplitl [HB]
    · iapply (wp_rowsTrip d L s g c S hS q B _) $$ HB
    · iintro %r ⟨%hr, HB⟩
      isplitr
      · ipureintro; rw [hr, untup8_tup8]; rfl
      · iexact HB
  · isplitr
    · ipureintro; rfl
    · iexact HB
  iintro %r ⟨%hr, HB⟩
  subst hr
  iapply (wp_ldR d L g 0 R) $$ HR; iintro HR
  ihave HR := (Entails.of_eq (show (rstV.view.loc (thrV d L) ↦{fullShare} R : sProp 𝕄)
    = (rstV.view.loc (thrV d L) ↦{fullShare} rstV.view.writes (Elt F) R []) from rfl)) $$ HR
  iapply (wp_stR d L g 0 R []) $$ HR; iintro HR
  iapply (wp_ldR d L g 1 _) $$ HR; iintro HR
  iapply (wp_stR d L g 1 R _) $$ HR; iintro HR
  iapply (wp_ldR d L g 2 _) $$ HR; iintro HR
  iapply (wp_stR d L g 2 R _) $$ HR; iintro HR
  iapply (wp_ldR d L g 3 _) $$ HR; iintro HR
  iapply (wp_stR d L g 3 R _) $$ HR; iintro HR
  iapply (wp_ldR d L g 4 _) $$ HR; iintro HR
  iapply (wp_stR d L g 4 R _) $$ HR; iintro HR
  iapply (wp_ldR d L g 5 _) $$ HR; iintro HR
  iapply (wp_stR d L g 5 R _) $$ HR; iintro HR
  iapply (wp_ldR d L g 6 _) $$ HR; iintro HR
  iapply (wp_stR d L g 6 R _) $$ HR; iintro HR
  iapply (wp_ldR d L g 7 _) $$ HR; iintro HR
  iapply (wp_stR d L g 7 R _) $$ HR; iintro HR
  rw [show (pure : _ → Prog (TpuEff nD τ sig (Elt F) Λ₀ (.scVector ((L 0).castLE hcore0) ((L 1).castLE hsub0))) Unit) = Prog.ret from rfl, wp_ret]
  imodintro
  isplitl [HB]; · iexact HB
  iapply (Entails.of_eq (congrArg (fun f => (rstV.view.loc (thrV d L) ↦{fullShare} f : sProp 𝕄))
    (writes_pieces g (fun k => stepN (α := FVec F S16 .f32) maximumf minimumf (fun k l => R (rIx k (16 * g.val + (l 0).val))) (rowV B s g) 6 k)
      R (grpVal B R s g) ?_ ?_)))
  · intro k l
    have hl : (16 * g.val + l.val) % 1024 = 16 * g.val + l.val := Nat.mod_eq_of_lt (by omega)
    rw [stepN_lane]
    unfold grpVal
    rw [if_pos]
    · show folded B R s ((16 * g.val + l.val) % 1024) k = _
      rw [hl]; rfl
    · show 16 * g.val ≤ (16 * g.val + l.val) % 1024 ∧ (16 * g.val + l.val) % 1024 < _
      omega
  · intro y hy
    exact if_neg hy
  · iexact HR

end Ops

end Cert.TopEight

end
-- ==== Proof.Chunk.lean ====
/- A chunk's pass over all sixty-four lane groups, and the first loop, which sets the running values to minus infinity. -/
module

public import proofs.«01_k».proof.Proof.Trip

@[expose] public section

set_option maxRecDepth 16384

noncomputable section

namespace Cert.TopEight

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- Minus infinity, the value the kernel starts from. -/
def negInf : F .f32 := Scalar.ofBits .f32 0xFF800000#32

/-- Minus infinity in sixteen lanes. -/
def negV : FVec F S16 .f32 := broadcast S16 (negInf (F := F))

section

variable (d : Dev nD) (L : grid0.Coords)

/-- The first loop's trip: the eight running values of a lane group set to minus infinity. -/
def initTrip (arg5 : Memref sig .scVector .vmem S8x1024 .f32) (g : Fin 64) :
    Prog (TpuEff nD τ sig (Elt F) Λ₀ (.scVector ((L 0).castLE hcore0) ((L 1).castLE hsub0))) Unit := do
  let _ ← ldR L arg5 g 0
  stR L arg5 g 0 negV
  let _ ← ldR L arg5 g 1
  stR L arg5 g 1 negV
  let _ ← ldR L arg5 g 2
  stR L arg5 g 2 negV
  let _ ← ldR L arg5 g 3
  stR L arg5 g 3 negV
  let _ ← ldR L arg5 g 4
  stR L arg5 g 4 negV
  let _ ← ldR L arg5 g 5
  stR L arg5 g 5 negV
  let _ ← ldR L arg5 g 6
  stR L arg5 g 6 negV
  let _ ← ldR L arg5 g 7
  stR L arg5 g 7 negV
  pure ⟨⟩

/-- The program's first loop runs that trip. -/
theorem t1_body_eq (arg2 : Memref sig .scVector .hbm S4x4096x1024 .f32) (harg2 : arg2.IsWhole) (arg3 : Memref sig .scVector .hbm S4x8x8x1024 .f32) (harg3 : arg3.IsWhole) (arg4 : Memref sig .scVector .vmem S2x48x1024 .f32) (harg4 : arg4.IsWhole) (arg5 : Memref sig .scVector .vmem S8x1024 .f32) (harg5 : arg5.IsWhole) (arg6 : DmaSems sig S_) (arg7 : DmaSems sig S_) (v111_r0 : DmaSems sig S_) (g : Fin k0_t1_loop.trips) :
    k0_t1_body (F := F) L arg2 harg2 arg3 harg3 arg4 harg4 arg5 harg5 arg6 arg7 v111_r0 g () = initTrip L arg5 g := by
  unfold k0_t1_body initTrip
  rw [k0_part1_eq_skeleton]
  unfold k0_part1_skel
  simp only [bind_assoc, pure_bind]
  with_unfolding_all rfl

/-- The running values with the first `n` lane groups taken from `G`, the others from `R`. -/
def upto (n : ℕ) (G R : S8x1024.Idx → F .f32) : S8x1024.Idx → F .f32 := fun y => if (y 1).val < 16 * n then G y else R y

theorem upto_zero (G R : S8x1024.Idx → F .f32) : upto 0 G R = R := funext fun y => if_neg (by omega)
theorem upto_all (G R : S8x1024.Idx → F .f32) : upto 64 G R = G := funext fun y => if_pos (by have : (y 1).val < 1024 := (y 1).isLt; omega)

theorem wp_initTrip (g : Fin 64) (R : S8x1024.Idx → F .f32) :
    (rstV.view.loc (thrV d L) ↦{fullShare} upto g.val (fun _ => negInf) R : sProp 𝕄)
      ⊢ wp frame (wpE (defs₀ (F := F)) 𝒱₀ (thrV d L) none) Set.univ (initTrip L rstV g) fun _ =>
          (rstV.view.loc (thrV d L) ↦{fullShare} upto (g.val + 1) (fun _ => negInf) R) := by
  unfold initTrip
  generalize hR' : upto g.val (fun _ => negInf) R = R'
  iintro HR
  iapply (wp_ldR d L g 0 R') $$ HR; iintro HR
  ihave HR := (Entails.of_eq (show (rstV.view.loc (thrV d L) ↦{fullShare} R' : sProp 𝕄)
    = (rstV.view.loc (thrV d L) ↦{fullShare} rstV.view.writes (Elt F) R' []) from rfl)) $$ HR
  iapply (wp_stR d L g 0 R' []) $$ HR; iintro HR
  iapply (wp_ldR d L g 1 _) $$ HR; iintro HR
  iapply (wp_stR d L g 1 R' _) $$ HR; iintro HR
  iapply (wp_ldR d L g 2 _) $$ HR; iintro HR
  iapply (wp_stR d L g 2 R' _) $$ HR; iintro HR
  iapply (wp_ldR d L g 3 _) $$ HR; iintro HR
  iapply (wp_stR d L g 3 R' _) $$ HR; iintro HR
  iapply (wp_ldR d L g 4 _) $$ HR; iintro HR
  iapply (wp_stR d L g 4 R' _) $$ HR; iintro HR
  iapply (wp_ldR d L g 5 _) $$ HR; iintro HR
  iapply (wp_stR d L g 5 R' _) $$ HR; iintro HR
  iapply (wp_ldR d L g 6 _) $$ HR; iintro HR
  iapply (wp_stR d L g 6 R' _) $$ HR; iintro HR
  iapply (wp_ldR d L g 7 _) $$ HR; iintro HR
  iapply (wp_stR d L g 7 R' _) $$ HR; iintro HR
  rw [show (pure : _ → Prog (TpuEff nD τ sig (Elt F) Λ₀ (.scVector ((L 0).castLE hcore0) ((L 1).castLE hsub0))) Unit) = Prog.ret from rfl, wp_ret]
  imodintro
  iapply (Entails.of_eq (congrArg (fun f => (rstV.view.loc (thrV d L) ↦{fullShare} f : sProp 𝕄))
    (writes_pieces g (fun _ => negV) R' (upto (g.val + 1) (fun _ => negInf) R) ?_ ?_)))
  · intro k l
    unfold upto
    rw [if_pos]
    · rfl
    · show (16 * g.val + l.val) % 1024 < _
      omega
  · intro y hy
    rw [← hR']
    unfold upto
    by_cases h : (y 1).val < 16 * g.val
    · rw [if_pos (by omega), if_pos h]
    · rw [if_neg (by omega), if_neg h]
  · iexact HR

/-- The first loop: every running value is minus infinity. -/
theorem wp_init (R : S8x1024.Idx → F .f32) (body : Fin k0_t1_loop.trips → Unit → Prog (TpuEff nD τ sig (Elt F) Λ₀ (.scVector ((L 0).castLE hcore0) ((L 1).castLE hsub0))) Unit)
    (hbody : ∀ g, body g () = initTrip L rstV g) {β : Type} {kk : Unit → Prog (TpuEff nD τ sig (Elt F) Λ₀ (.scVector ((L 0).castLE hcore0) ((L 1).castLE hsub0))) β}
    {Q : β → sProp 𝕄} :
    (rstV.view.loc (thrV d L) ↦{fullShare} R : sProp 𝕄)
      ⊢ iprop(((rstV.view.loc (thrV d L) ↦{fullShare} fun _ => negInf (F := F)) -∗ wp frame (wpE (defs₀ (F := F)) 𝒱₀ (thrV d L) none) Set.univ (kk ()) Q)
        -∗ wp frame (wpE (defs₀ (F := F)) 𝒱₀ (thrV d L) none) Set.univ (Scf.Loop.for k0_t1_loop k0_t1_ok () body >>= kk) Q) := by
  iintro HR Hk
  iapply (Scf.wp_for_bind frame (wpE (defs₀ (F := F)) 𝒱₀ (thrV d L) none) Set.univ _ _ _ _ _ _
    (fun n _ => iprop(rstV.view.loc (thrV d L) ↦{fullShare} upto n (fun _ => negInf) R)) ?_) $$ [HR]
  · intro g acc
    rw [hbody g]
    exact wp_initTrip d L g R
  · rw [upto_zero]; iexact HR
  · iintro %acc HR
    iapply Hk
    rw [show Scf.trips k0_t1_loop.lb k0_t1_loop.ub k0_t1_loop.st = 64 by decide, upto_all]
    iexact HR

/-- The running values after a chunk: every column folded. -/
def chunkVal (B : S2x48x1024.Idx → F .f32) (R : S8x1024.Idx → F .f32) (s : Fin 2) : S8x1024.Idx → F .f32 := fun y => folded B R s (y 1).val (y 0)

theorem grpVal_upto (B : S2x48x1024.Idx → F .f32) (R : S8x1024.Idx → F .f32) (s : Fin 2) (g : Fin 64) :
    grpVal B (upto g.val (chunkVal B R s) R) s g = upto (g.val + 1) (chunkVal B R s) R := by
  funext y
  unfold grpVal
  by_cases h : 16 * g.val ≤ (y 1).val ∧ (y 1).val < 16 * g.val + 16
  · rw [if_pos h]
    unfold upto
    rw [if_pos (by omega)]
    unfold chunkVal folded
    refine congrFun (congrArg (fun r => stepN FloatOps.maximumf FloatOps.minimumf r (colB B s (y 1).val) 6) (funext fun k => ?_)) (y 0)
    have hy : (y 1).val < 1024 := (y 1).isLt
    refine if_neg ?_
    show ¬ (y 1).val % 1024 < 16 * g.val
    omega
  · rw [if_neg h]
    unfold upto
    by_cases h' : (y 1).val < 16 * g.val
    · rw [if_pos h', if_pos (by omega)]
    · rw [if_neg h', if_neg (by omega)]

/-- A chunk's pass: with the chunk's rows in slot `s`, every column's running eight is taken through them. -/
theorem wp_chunk (s : Fin 2) (S : Finset S2x48x1024.Idx) (hS : ∀ y : S2x48x1024.Idx, y 0 = s → y ∈ S) (q : PosShare TreeShare)
    (B : S2x48x1024.Idx → F .f32) (R : S8x1024.Idx → F .f32)
    (body : Fin k0_t2_loop.trips → Unit → Prog (TpuEff nD τ sig (Elt F) Λ₀ (.scVector ((L 0).castLE hcore0) ((L 1).castLE hsub0))) Unit)
    (hbody : ∀ g, body g () = grpTrip L bufV rstV s g) {β : Type} {kk : Unit → Prog (TpuEff nD τ sig (Elt F) Λ₀ (.scVector ((L 0).castLE hcore0) ((L 1).castLE hsub0))) β}
    {Q : β → sProp 𝕄} :
    iprop((bufV.view.loc (thrV d L) ↦[S]{q} B) ∗ (rstV.view.loc (thrV d L) ↦{fullShare} R) : sProp 𝕄)
      ⊢ iprop((((bufV.view.loc (thrV d L) ↦[S]{q} B) ∗ (rstV.view.loc (thrV d L) ↦{fullShare} chunkVal B R s))
            -∗ wp frame (wpE (defs₀ (F := F)) 𝒱₀ (thrV d L) none) Set.univ (kk ()) Q)
        -∗ wp frame (wpE (defs₀ (F := F)) 𝒱₀ (thrV d L) none) Set.univ (Scf.Loop.for k0_t2_loop k0_t2_ok () body >>= kk) Q) := by
  iintro H Hk
  iapply (Scf.wp_for_bind frame (wpE (defs₀ (F := F)) 𝒱₀ (thrV d L) none) Set.univ _ _ _ _ _ _
    (fun n _ => iprop((bufV.view.loc (thrV d L) ↦[S]{q} B) ∗ (rstV.view.loc (thrV d L) ↦{fullShare} upto n (chunkVal B R s) R))) ?_) $$ [H]
  · intro g acc
    rw [hbody g]
    have h := wp_grpTrip d L s g S hS q B (upto g.val (chunkVal B R s) R)
    rw [grpVal_upto B R s g] at h
    exact h
  · rw [upto_zero]; iexact H
  · iintro %acc H
    iapply Hk
    rw [show Scf.trips k0_t2_loop.lb k0_t2_loop.ub k0_t2_loop.st = 64 by decide, upto_all]
    iexact H

end

end Cert.TopEight

end
-- ==== Proof.Tile.lean ====
/- One SparseCore task: four chunks of forty-eight rows brought in by copies, two in flight, folded into the running
   eight of every column, and the result copied out. -/
module

public import proofs.«01_k».proof.Proof.Chunk

@[expose] public section

set_option maxRecDepth 16384

noncomputable section

namespace Cert.TopEight

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

section

variable (d : Dev nD) (L : grid0.Coords)

/-- Slot `s` of the row buffer, as the copies address it. -/
abbrev slot0 : Memref sig .scVector .vmem S48x1024 .f32 :=
  (bufV.slice (Rect.unit (s := S2x48x1024) ![0, 0, 0] S1x48x1024.size inb_S2x48x1024_S1x48x1024_0_0_0) (fun _ => rfl)).squeeze S48x1024 squeezes_S1x48x1024_S48x1024
abbrev slot1 : Memref sig .scVector .vmem S48x1024 .f32 :=
  (bufV.slice (Rect.unit (s := S2x48x1024) ![1, 0, 0] S1x48x1024.size inb_S2x48x1024_S1x48x1024_1_0_0) (fun _ => rfl)).squeeze S48x1024 squeezes_S1x48x1024_S48x1024

/-- The task's block of the output, as the last copy addresses it. -/
abbrev oBlk : Memref sig .scVector .hbm S8x1024 .f32 :=
  (oV.slice (Rect.unit (s := S4x8x8x1024) (k0_off48 L) S1x1x8x1024.size (k0_off48_inb L)) (fun _ => rfl)).squeeze S8x1024 squeezes_S1x1x8x1024_S8x1024

theorem mem_slot0 (y : S2x48x1024.Idx) : y ∈ slot0.view.set ↔ (y 0).val = 0 := by
  rw [show slot0.view.set = (bufV.view.slice (Rect.unit (s := S2x48x1024) ![0, 0, 0] S1x48x1024.size inb_S2x48x1024_S1x48x1024_0_0_0)).set from View.set_reshape _ _]
  rw [show (bufV.view.slice (Rect.unit (s := S2x48x1024) ![0, 0, 0] S1x48x1024.size inb_S2x48x1024_S1x48x1024_0_0_0)).set = (Rect.unit (s := S2x48x1024) ![0, 0, 0] S1x48x1024.size inb_S2x48x1024_S1x48x1024_0_0_0).set from View.set_slice_whole _ _]
  rw [Rect.mem_set_unit]
  constructor
  · intro h
    have h0 : 0 ≤ (y 0).val ∧ (y 0).val < 0 + 1 := h 0
    omega
  · intro h a
    fin_cases a
    · show 0 ≤ (y 0).val ∧ (y 0).val < 0 + 1
      omega
    · exact ⟨Nat.zero_le _, by have : (y 1).val < 48 := (y 1).isLt; show (y 1).val < 0 + 48; omega⟩
    · exact ⟨Nat.zero_le _, by have : (y 2).val < 1024 := (y 2).isLt; show (y 2).val < 0 + 1024; omega⟩
theorem mem_slot1 (y : S2x48x1024.Idx) : y ∈ slot1.view.set ↔ (y 0).val = 1 := by
  rw [show slot1.view.set = (bufV.view.slice (Rect.unit (s := S2x48x1024) ![1, 0, 0] S1x48x1024.size inb_S2x48x1024_S1x48x1024_1_0_0)).set from View.set_reshape _ _]
  rw [show (bufV.view.slice (Rect.unit (s := S2x48x1024) ![1, 0, 0] S1x48x1024.size inb_S2x48x1024_S1x48x1024_1_0_0)).set = (Rect.unit (s := S2x48x1024) ![1, 0, 0] S1x48x1024.size inb_S2x48x1024_S1x48x1024_1_0_0).set from View.set_slice_whole _ _]
  rw [Rect.mem_set_unit]
  constructor
  · intro h
    have h0 : 1 ≤ (y 0).val ∧ (y 0).val < 1 + 1 := h 0
    omega
  · intro h a
    fin_cases a
    · show 1 ≤ (y 0).val ∧ (y 0).val < 1 + 1
      omega
    · exact ⟨Nat.zero_le _, by have : (y 1).val < 48 := (y 1).isLt; show (y 1).val < 0 + 48; omega⟩
    · exact ⟨Nat.zero_le _, by have : (y 2).val < 1024 := (y 2).isLt; show (y 2).val < 0 + 1024; omega⟩

theorem sets_disj : Disjoint slot0.view.set slot1.view.set := by
  rw [Finset.disjoint_left]
  intro (y : S2x48x1024.Idx) h h'
  have a := (mem_slot0 y).mp h
  have b := (mem_slot1 y).mp h'
  omega
theorem sets_union : slot0.view.set ∪ slot1.view.set = Finset.univ := by
  refine Finset.eq_univ_iff_forall.mpr fun (y : S2x48x1024.Idx) => Finset.mem_union.mpr ?_
  rw [mem_slot0, mem_slot1]
  have : (y 0).val < 2 := (y 0).isLt
  omega

abbrev cell6 (d : Dev nD) (L : grid0.Coords) : GSem nD τ sig := (thrV d L, .dma cc0_scratch2.sem)
abbrev cell7 (d : Dev nD) (L : grid0.Coords) : GSem nD τ sig := (thrV d L, .dma cc0_scratch3.sem)
abbrev cellO (d : Dev nD) (L : grid0.Coords) : GSem nD τ sig := (thrV d L, .dma cc0_scoped0.sem)

/-- The task's number: eight shards to a batch. -/
def wid (L : grid0.Coords) : ℕ := (L 1).val * 2 + (L 0).val
theorem off9_0 : ∀ L : grid0.Coords, k0_off9 L 0#32 = ![wid L / 8, 2560 + 192 * (wid L % 8) + 0, 0] := by decide +kernel
theorem off9_48 : ∀ L : grid0.Coords, k0_off9 L 48#32 = ![wid L / 8, 2560 + 192 * (wid L % 8) + 48, 0] := by decide +kernel
theorem off20_2 : ∀ L : grid0.Coords, k0_off20 L 2#32 = ![wid L / 8, 2560 + 192 * (wid L % 8) + 96, 0] := by decide +kernel
theorem off20_3 : ∀ L : grid0.Coords, k0_off20 L 3#32 = ![wid L / 8, 2560 + 192 * (wid L % 8) + 144, 0] := by decide +kernel
theorem off48 : ∀ L : grid0.Coords, k0_off48 L = ![wid L / 8, wid L % 8, 0, 0] := by decide +kernel
theorem wid_lt (L : grid0.Coords) : wid L < 32 := by
  have h0 : (L 0).val < 2 := (L 0).isLt
  have h1 : (L 1).val < 16 := (L 1).isLt
  unfold wid
  omega

/-- A squeezed box of one slab read at a row and a lane. -/
theorem squeeze_apply (G : S1x48x1024.Idx → F .f32) (x0 : Fin 48) (x1 : Fin 1024) (h : S48x1024.numel = S1x48x1024.numel) :
    G (Shape.reshapeEquiv h (ix2 x0 x1)) = G (ix3 0 x0 x1) := by
  show shapeCast S48x1024 G h (ix2 x0 x1) = G (ix3 0 x0 x1)
  pointwise

theorem slot0_read (G : S2x48x1024.Idx → F .f32) (x : S48x1024.Idx) :
    slot0.view.read (Elt F) G x = G (ix3 0 (x 0) (x 1)) := by
  idx_vars x
  refine (squeeze_apply (fun y => G ((Rect.unit (s := S2x48x1024) ![0, 0, 0] S1x48x1024.size inb_S2x48x1024_S1x48x1024_0_0_0).emb y)) x0 x1 _).trans (congrArg G ?_)
  refine Rect.emb_eq_of_coords _ _ _ fun a => ?_
  fin_cases a
  · rfl
  · show x0.val = 0 + 1 * x0.val
    omega
  · show x1.val = 0 + 1 * x1.val
    omega
theorem slot1_read (G : S2x48x1024.Idx → F .f32) (x : S48x1024.Idx) :
    slot1.view.read (Elt F) G x = G (ix3 1 (x 0) (x 1)) := by
  idx_vars x
  refine (squeeze_apply (fun y => G ((Rect.unit (s := S2x48x1024) ![1, 0, 0] S1x48x1024.size inb_S2x48x1024_S1x48x1024_1_0_0).emb y)) x0 x1 _).trans (congrArg G ?_)
  refine Rect.emb_eq_of_coords _ _ _ fun a => ?_
  fin_cases a
  · rfl
  · show x0.val = 0 + 1 * x0.val
    omega
  · show x1.val = 0 + 1 * x1.val
    omega

/-- The rows the task's chunk starting `o` rows into its shard brings in, in either slot. -/
def rowsOf (X : S4x4096x1024.Idx → F .f32) (L : grid0.Coords) (o : ℕ) : S2x48x1024.Idx → F .f32 :=
  fun y => X (ix3 (Fin.ofNat 4 (wid L / 8)) (Fin.ofNat 4096 (2560 + 192 * (wid L % 8) + o + (y 1).val)) (y 2))

theorem src_read (X : S4x4096x1024.Idx → F .f32) (off : Fin 3 → ℕ) (inb) (o : ℕ) (ho : o + 48 ≤ 192) (h : off = ![wid L / 8, 2560 + 192 * (wid L % 8) + o, 0]) (s : Fin 2) (x : S48x1024.Idx) :
    ((xV.slice (Rect.unit (s := S4x4096x1024) off S1x48x1024.size inb) (fun _ => rfl)).squeeze S48x1024 squeezes_S1x48x1024_S48x1024).view.read (Elt F) X x
      = rowsOf X L o (ix3 s (x 0) (x 1)) := by
  have hw := wid_lt L
  subst h
  idx_vars x
  refine (squeeze_apply (fun y => X ((Rect.unit (s := S4x4096x1024) ![wid L / 8, 2560 + 192 * (wid L % 8) + o, 0] S1x48x1024.size inb).emb y)) x0 x1 _).trans (congrArg X ?_)
  refine Rect.emb_eq_of_coords _ _ _ fun a => ?_
  have h0 := x0.isLt
  fin_cases a
  · show (wid L / 8) % 4 = wid L / 8 + 1 * 0
    omega
  · show (2560 + 192 * (wid L % 8) + o + x0.val) % 4096 = 2560 + 192 * (wid L % 8) + o + 1 * x0.val
    omega
  · show x1.val = 0 + 1 * x1.val
    omega

/-- A memref written whole holds what was written, at any contents that read so. -/
theorem slot_pts {sp : Space} {s : Shape} {sl : Memref sig .scVector sp s .f32} (q : PosShare TreeShare) (f G : Buf (Elt F) (sl.view.loc (thrV d L)))
    (pay : s.Idx → F .f32) (h : ∀ x, sl.view.read (Elt F) G x = pay x) :
    (sl.view.loc (thrV d L) ↦[sl.view.set]{q} sl.view.writes (Elt F) f [⟨Rect.whole s, pay⟩] : sProp 𝕄)
      = sl.view.loc (thrV d L) ↦[sl.view.set]{q} G := by
  refine pointsTo_congr fun i hi => ?_
  obtain ⟨x, -, rfl⟩ := Finset.mem_map.mp hi
  rw [← View.write_univ_eq_writes_whole, View.write_emb_of_mem _ _ (Finset.mem_univ _), ← h x, View.read_apply]
  simp

/-- What the SparseCore call leaves at batch, shard, rank, column: the running eight of the shard's 192 rows. -/
def scOut (X : S4x4096x1024.Idx → F .f32) : S4x8x8x1024.Idx → F .f32 := fun y =>
  stepN FloatOps.maximumf FloatOps.minimumf (fun _ => negInf)
    (fun r => X (ix3 (y 0) (Fin.ofNat 4096 (2560 + 192 * (y 1).val + r)) (y 3))) 24 (y 2)

/-- The running eight after the first `n` chunks. -/
def shardVal (X : S4x4096x1024.Idx → F .f32) (L : grid0.Coords) (n : ℕ) : S8x1024.Idx → F .f32 := fun y =>
  stepN FloatOps.maximumf FloatOps.minimumf (fun _ => negInf)
    (fun r => X (ix3 (Fin.ofNat 4 (wid L / 8)) (Fin.ofNat 4096 (2560 + 192 * (wid L % 8) + r)) (y 1))) (6 * n) (y 0)

theorem shardVal_zero (X : S4x4096x1024.Idx → F .f32) : (fun _ => negInf) = shardVal X L 0 := rfl

/-- A chunk takes the running eight one chunk further. -/
theorem shardVal_succ (X : S4x4096x1024.Idx → F .f32) (n : ℕ) (o : ℕ) (ho : o = 48 * n) (s : Fin 2) :
    chunkVal (rowsOf X L o) (shardVal X L n) s = shardVal X L (n + 1) := by
  subst ho
  funext y
  have h1 : (y 1).val < 1024 := (y 1).isLt
  have e1 : (Fin.ofNat 1024 (y 1).val : Fin 1024) = y 1 := Fin.ext (Nat.mod_eq_of_lt h1)
  unfold chunkVal folded
  show _ = stepN _ _ _ _ (6 * (n + 1)) (y 0)
  rw [show 6 * (n + 1) = 6 * n + 6 by omega, ← stepN_add]
  refine congrFun ?_ (y 0)
  refine Eq.trans (stepN_congr _ _ _ 6 ?_) (congrArg (fun r => stepN _ _ r _ 6) ?_)
  · intro r hr
    unfold colB rowsOf bIx
    have er : r % 48 = r := Nat.mod_eq_of_lt (by omega)
    show X (ix3 _ (Fin.ofNat 4096 (2560 + 192 * (wid L % 8) + 48 * n + r % 48)) (Fin.ofNat 1024 (y 1).val)) = _
    rw [er, e1, show 2560 + 192 * (wid L % 8) + 48 * n + r = 2560 + 192 * (wid L % 8) + (8 * (6 * n) + r) by omega]
  · funext k
    show stepN _ _ _ (fun r => X (ix3 _ _ (Fin.ofNat 1024 (y 1).val))) (6 * n) k = _
    rw [e1]

/-- The output block's squeezed box read at a rank and a lane. -/
theorem oBlk_read (G : S4x8x8x1024.Idx → F .f32) (x : S8x1024.Idx) :
    (oBlk L).view.read (Elt F) G x = G (ix4 (Fin.ofNat 4 (wid L / 8)) (Fin.ofNat 8 (wid L % 8)) (x 0) (x 1)) := by
  have hw := wid_lt L
  have ho := off48 L
  idx_vars x
  refine Eq.trans (show _ = shapeCast S8x1024 (fun y : S1x1x8x1024.Idx => G ((Rect.unit (s := S4x8x8x1024) (k0_off48 L) S1x1x8x1024.size (k0_off48_inb L)).emb y)) squeezes_S1x1x8x1024_S8x1024.numel_eq (ix2 x0 x1) from rfl) ?_
  refine Eq.trans (b := G ((Rect.unit (s := S4x8x8x1024) (k0_off48 L) S1x1x8x1024.size (k0_off48_inb L)).emb (ix4 0 0 x0 x1))) (by pointwise) (congrArg G ?_)
  refine Rect.emb_eq_of_coords _ _ _ fun a => ?_
  fin_cases a
  · show (wid L / 8) % 4 = k0_off48 L 0 + 1 * 0
    rw [ho]
    show (wid L / 8) % 4 = wid L / 8 + 1 * 0
    omega
  · show (wid L % 8) % 8 = k0_off48 L 1 + 1 * 0
    rw [ho]
    show (wid L % 8) % 8 = wid L % 8 + 1 * 0
    omega
  · show x0.val = k0_off48 L 2 + 1 * x0.val
    rw [ho]
    show x0.val = 0 + 1 * x0.val
    omega
  · show x1.val = k0_off48 L 3 + 1 * x1.val
    rw [ho]
    show x1.val = 0 + 1 * x1.val
    omega

/-- The task's block of the call's output is its shard's running eight after all four chunks. -/
theorem oBlk_scOut (X : S4x4096x1024.Idx → F .f32) (x : S8x1024.Idx) : (oBlk L).view.read (Elt F) (scOut X) x = shardVal X L 4 x := by
  rw [oBlk_read]
  unfold scOut shardVal
  show stepN _ _ _ (fun r => X (ix3 _ (Fin.ofNat 4096 (2560 + 192 * ((wid L % 8) % 8) + r)) _)) 24 _ = _
  rw [Nat.mod_mod]
  rfl

set_option maxHeartbeats 1000000 in
/-- The task, from its share of the input, its block of the output and its own buffers and counters: the block is left
    at the call's value. -/
theorem tile_core (O : CellTallies nD τ sig (HIx 1)) (W : Waits sig (HIx 1)) (q : PosShare TreeShare) (X : S4x4096x1024.Idx → F .f32)
    (o₀ : S4x8x8x1024.Idx → F .f32) (B : S2x48x1024.Idx → F .f32) (R : S8x1024.Idx → F .f32) :
    iprop(Transfers.MayWaits (thrV d L) (default : HIx 1) O
        ∗ (xV.view.loc (thrV d L) ↦{q} X) ∗ ((oBlk L).view.loc (thrV d L) ↦[(oBlk L).view.set]{fullShare} o₀)
        ∗ (bufV.view.loc (thrV d L) ↦{fullShare} B) ∗ (rstV.view.loc (thrV d L) ↦{fullShare} R)
        ∗ semVal (cell6 d L) 0 ∗ semVal (cell7 d L) 0 ∗ semVal (cellO d L) 0
        ∗ owes (thrV d L) O W : sProp 𝕄)
      ⊢ wp frame (wpE (defs₀ (F := F)) 𝒱₀ (thrV d L) none) Set.univ
          (cc0_sc_topk L xV (Memref.isWhole_whole _) oV (Memref.isWhole_whole _) bufV (Memref.isWhole_whole _) rstV (Memref.isWhole_whole _)
            cc0_scratch2 cc0_scratch3 cc0_scoped0)
          fun _ => iprop((xV.view.loc (thrV d L) ↦{q} X) ∗ ((oBlk L).view.loc (thrV d L) ↦[(oBlk L).view.set]{fullShare} scOut X)
            ∗ (∃ B', bufV.view.loc (thrV d L) ↦{fullShare} B') ∗ (∃ R', rstV.view.loc (thrV d L) ↦{fullShare} R')
            ∗ semVal (cell6 d L) 0 ∗ semVal (cell7 d L) 0 ∗ semVal (cellO d L) 0
            ∗ ∃ W', ⌜∀ p ∈ W', p ∈ W ∨ p.2 = none⌝ ∗ owes (thrV d L) O W') := by
  simp only [cc0_sc_topk_eq_skeleton]; unfold cc0_sc_topk_skel
  rw [k0_part14_eq_skeleton, k0_part15_eq_skeleton, k0_part16_eq_skeleton, k0_part17_eq_skeleton]
  unfold k0_part14_skel k0_part15_skel k0_part16_skel k0_part17_skel
  simp only [bind_assoc, pure_bind]
  iintro ⟨#Hmw, Hx, Ho, Hb, Hr, H6, H7, HO6, HO⟩
  iapply (wp_init d L R _ (t1_body_eq L _ _ _ _ _ _ _ _ _ _ _)) $$ Hr
  iintro Hr
  ihave Hb := (Entails.of_eq (show (bufV.view.loc (thrV d L) ↦{fullShare} B : sProp 𝕄) = (bufV.view.loc (thrV d L) ↦[slot0.view.set ∪ slot1.view.set]{fullShare} B) by rw [sets_union])) $$ Hb
  ihave Hb := (pointsTo_union sets_disj).1 $$ Hb
  icases Hb with ⟨Hb0, Hb1⟩
  ihave Hx := (Entails.of_eq (show _ = (xV.view.loc (thrV d L) ↦{q} X : sProp 𝕄) from rfl)) $$ Hx
  ihave Hx := (pointsTo_share (PosShare.mem_left_op_right q)).1 $$ Hx
  icases Hx with ⟨Hxa, Hxb⟩
  ihave Ho := (Entails.of_eq (show _ = ((oBlk L).view.loc (thrV d L) ↦[(oBlk L).view.set]{fullShare} o₀ : sProp 𝕄) from rfl)) $$ Ho
  ihave Hb0 := (Entails.of_eq (show (bufV.view.loc (thrV d L) ↦[slot0.view.set]{fullShare} B : sProp 𝕄) = (slot0.view.loc (thrV d L) ↦[slot0.view.set]{fullShare} B) from rfl)) $$ Hb0
  ihave Hb1 := (Entails.of_eq (show (bufV.view.loc (thrV d L) ↦[slot1.view.set]{fullShare} B : sProp 𝕄) = (slot1.view.loc (thrV d L) ↦[slot1.view.set]{fullShare} B) from rfl)) $$ Hb1
  sl_exec
  -- the first chunk
  ihave Hb0 := (Entails.of_eq (slot_pts d L (sl := slot0) fullShare _ (rowsOf X L 0) (tile_core.sl.dma0 L X)
    (fun x => (slot0_read _ x).trans (src_read L X _ _ 0 (by decide) (off9_0 L) 0 x).symm))) $$ Hb0
  iapply (wp_chunk d L 0 slot0.view.set (fun y hy => (mem_slot0 y).mpr (congrArg Fin.val hy)) fullShare (rowsOf X L 0) (shardVal X L 0) _
    (t2_body_eq L _ _ _ _ _ _ _ _ _ _ _ _)) $$ [Hb0 Hr]
  · isplitl [Hb0]
    · iexact Hb0
    · iexact Hr
  rw [shardVal_succ L X 0 0 (by decide)]
  iintro ⟨Hb0, Hr⟩
  ihave Hb0 := (Entails.of_eq (show (bufV.view.loc (thrV d L) ↦[slot0.view.set]{fullShare} rowsOf X L 0 : sProp 𝕄) = (slot0.view.loc (thrV d L) ↦[slot0.view.set]{fullShare} rowsOf X L 0) from rfl)) $$ Hb0
  sl_exec
  -- the second
  ihave Hb1 := (Entails.of_eq (slot_pts d L (sl := slot1) fullShare _ (rowsOf X L 48) (tile_core.sl.dma0_1 L X)
    (fun x => (slot1_read _ x).trans (src_read L X _ _ 48 (by decide) (off9_48 L) 1 x).symm))) $$ Hb1
  iapply (wp_chunk d L 1 slot1.view.set (fun y hy => (mem_slot1 y).mpr (congrArg Fin.val hy)) fullShare (rowsOf X L 48) (shardVal X L 1) _
    (t4_body_eq L _ _ _ _ _ _ _ _ _ _ _ _ _)) $$ [Hb1 Hr]
  · isplitl [Hb1]
    · iexact Hb1
    · iexact Hr
  rw [shardVal_succ L X 1 48 (by decide)]
  iintro ⟨Hb1, Hr⟩
  ihave Hb1 := (Entails.of_eq (show (bufV.view.loc (thrV d L) ↦[slot1.view.set]{fullShare} rowsOf X L 48 : sProp 𝕄) = (slot1.view.loc (thrV d L) ↦[slot1.view.set]{fullShare} rowsOf X L 48) from rfl)) $$ Hb1
  sl_exec
  -- the third
  ihave Hb0 := (Entails.of_eq (slot_pts d L (sl := slot0) fullShare _ (rowsOf X L 96) (tile_core.sl.dma0_2 L X)
    (fun x => (slot0_read _ x).trans (src_read L X _ _ 96 (by decide) (off20_2 L) 0 x).symm))) $$ Hb0
  iapply (wp_chunk d L 0 slot0.view.set (fun y hy => (mem_slot0 y).mpr (congrArg Fin.val hy)) fullShare (rowsOf X L 96) (shardVal X L 2) _
    (t6_body_eq L _ _ _ _ _ _ _ _ _ _ _)) $$ [Hb0 Hr]
  · isplitl [Hb0]
    · iexact Hb0
    · iexact Hr
  rw [shardVal_succ L X 2 96 (by decide)]
  iintro ⟨Hb0, Hr⟩
  sl_exec
  -- the fourth
  ihave Hb1 := (Entails.of_eq (slot_pts d L (sl := slot1) fullShare _ (rowsOf X L 144) (tile_core.sl.dma0_3 L X)
    (fun x => (slot1_read _ x).trans (src_read L X _ _ 144 (by decide) (off20_3 L) 1 x).symm))) $$ Hb1
  iapply (wp_chunk d L 1 slot1.view.set (fun y hy => (mem_slot1 y).mpr (congrArg Fin.val hy)) fullShare (rowsOf X L 144) (shardVal X L 3) _
    (t8_body_eq L _ _ _ _ _ _ _ _ _ _ _ _)) $$ [Hb1 Hr]
  · isplitl [Hb1]
    · iexact Hb1
    · iexact Hr
  rw [shardVal_succ L X 3 144 (by decide)]
  iintro ⟨Hb1, Hr⟩
  sl_exec
  ihave Ho := (Entails.of_eq (slot_pts d L (sl := oBlk L) fullShare _ (scOut X) (tile_core.sl.dma0_4 L X)
    (fun x => oBlk_scOut L X x))) $$ Ho
  rw [wp_ret]
  imodintro
  isplitl [Hxa Hxb]
  · iapply (show _ ⊢ (xV.view.loc (thrV d L) ↦{q} X : sProp 𝕄) from (pointsTo_share (PosShare.mem_left_op_right q)).2)
    isplitl [Hxa]
    · iexact Hxa
    · iexact Hxb
  isplitl [Ho]
  · iexact Ho
  isplitl [Hb0 Hb1]
  · iexists _
    iapply (Entails.of_eq (show (bufV.view.loc (thrV d L) ↦[slot0.view.set ∪ slot1.view.set]{fullShare} _ : sProp 𝕄) = (bufV.view.loc (thrV d L) ↦{fullShare} _) by rw [sets_union]))
    iapply (pointsTo_join sets_disj)
    isplitl [Hb0]
    · iexact Hb0
    · iexact Hb1
  isplitl [Hr]
  · iexists _
    iexact Hr
  isplitl [H6]
  · iexact H6
  isplitl [H7]
  · iexact H7
  isplitl [HO6]
  · iexact HO6
  iexists _
  isplitr
  swap
  · iexact HO
  ipureintro
  intro p hp
  rcases Finset.mem_insert.mp hp with hp | hp
  · exact .inr (hp ▸ rfl)
  rcases Finset.mem_insert.mp hp with hp | hp
  · exact .inr (hp ▸ rfl)
  rcases Finset.mem_insert.mp hp with hp | hp
  · exact .inr (hp ▸ rfl)
  rcases Finset.mem_insert.mp hp with hp | hp
  · exact .inr (hp ▸ rfl)
  rcases Finset.mem_insert.mp hp with hp | hp
  · exact .inr (hp ▸ rfl)
  exact .inl hp

end

end Cert.TopEight

end
-- ==== Proof.Deal.lean ====
/- What the SparseCore call's handshakes carry — the input dealt to the tasks as read shares, the output in blocks —,
   and the task's obligation. -/
module

public import proofs.«01_k».proof.Proof.Tile

@[expose] public section

set_option maxRecDepth 16384

noncomputable section

namespace Cert.TopEight

open Cert.KernelIdeal Cert.KernelIdeal.Gen
open Idealize.ShloMosaic
open Idealize.ShloMosaic.SparseCore (S V T)
open Idealize.ShloMosaic.SparseCore.Cfg (HIx mem_ownCells ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- The input array. -/
abbrev xLoc (d : Dev nD) : Loc nD τ sig := (T d : Thread nD τ).loc main_arg0
/-- The SparseCore call's output array. -/
abbrev oLoc (d : Dev nD) : Loc nD τ sig := (T d : Thread nD τ).loc main_v0

/-- The coordinates of tile `i` of core `c`. -/
def tileAt (c : Fin 2) (i : Fin 16) : grid0.Coords :=
  fun | 0 => c | 1 => i | ⟨_ + 2, h⟩ => absurd h (Nat.not_lt.2 (Nat.le_add_left _ _))

/-- The share of the input that core `c`'s tile `i` reads. -/
def xShare (c : Fin 2) (i : Fin 16) : PosShare TreeShare :=
  Transfers.dealOf (Transfers.dealOf fullShare Finset.univ c) Finset.univ i

/-- The elements of tile `i` of core `c`'s output block. -/
def oSet (p : Fin 2 × Fin 16) : Finset S4x8x8x1024.Idx := (oBlk (tileAt p.1 p.2)).view.set

theorem mem_oSet (p : Fin 2 × Fin 16) (y : S4x8x8x1024.Idx) :
    y ∈ oSet p ↔ (y 0).val = wid (tileAt p.1 p.2) / 8 ∧ (y 1).val = wid (tileAt p.1 p.2) % 8 := by
  have ho := off48 (tileAt p.1 p.2)
  unfold oSet
  rw [show (oBlk (tileAt p.1 p.2)).view.set = (oV.view.slice (Rect.unit (s := S4x8x8x1024) (k0_off48 (tileAt p.1 p.2)) S1x1x8x1024.size (k0_off48_inb (tileAt p.1 p.2)))).set from View.set_reshape _ _]
  rw [show (oV.view.slice (Rect.unit (s := S4x8x8x1024) (k0_off48 (tileAt p.1 p.2)) S1x1x8x1024.size (k0_off48_inb (tileAt p.1 p.2)))).set = (Rect.unit (s := S4x8x8x1024) (k0_off48 (tileAt p.1 p.2)) S1x1x8x1024.size (k0_off48_inb (tileAt p.1 p.2))).set from View.set_slice_whole _ _]
  rw [Rect.mem_set_unit, ho]
  constructor
  · intro h
    have h0 : wid (tileAt p.1 p.2) / 8 ≤ (y 0).val ∧ (y 0).val < wid (tileAt p.1 p.2) / 8 + 1 := h 0
    have h1 : wid (tileAt p.1 p.2) % 8 ≤ (y 1).val ∧ (y 1).val < wid (tileAt p.1 p.2) % 8 + 1 := h 1
    omega
  · rintro ⟨h0, h1⟩ a
    fin_cases a
    · show wid (tileAt p.1 p.2) / 8 ≤ (y 0).val ∧ (y 0).val < wid (tileAt p.1 p.2) / 8 + 1
      omega
    · show wid (tileAt p.1 p.2) % 8 ≤ (y 1).val ∧ (y 1).val < wid (tileAt p.1 p.2) % 8 + 1
      omega
    · exact ⟨Nat.zero_le _, by have : (y 2).val < 8 := (y 2).isLt; show (y 2).val < 0 + 8; omega⟩
    · exact ⟨Nat.zero_le _, by have : (y 3).val < 1024 := (y 3).isLt; show (y 3).val < 0 + 1024; omega⟩

theorem wid_tileAt (p : Fin 2 × Fin 16) : wid (tileAt p.1 p.2) = p.2.val * 2 + p.1.val := rfl

theorem oSets_disjoint : ∀ p ∈ (Finset.univ : Finset (Fin 2 × Fin 16)), ∀ p' ∈ (Finset.univ : Finset (Fin 2 × Fin 16)), p ≠ p' → Disjoint (oSet p) (oSet p') := by
  intro p _ p' _ hne
  rw [Finset.disjoint_left]
  intro y h h'
  rw [mem_oSet, wid_tileAt] at h h'
  refine hne ?_
  have a := p.1.isLt
  have a' := p'.1.isLt
  exact Prod.ext (Fin.ext (by omega)) (Fin.ext (by omega))

theorem oSets_cover : (Finset.univ : Finset (Fin 2 × Fin 16)).biUnion oSet = Finset.univ := by
  refine Finset.eq_univ_iff_forall.mpr fun y => ?_
  have h0 : (y 0).val < 4 := (y 0).isLt
  have h1 : (y 1).val < 8 := (y 1).isLt
  refine Finset.mem_biUnion.mpr ⟨(⟨(8 * (y 0).val + (y 1).val) % 2, by omega⟩, ⟨(8 * (y 0).val + (y 1).val) / 2, by omega⟩), Finset.mem_univ _, ?_⟩
  rw [mem_oSet, wid_tileAt]
  dsimp only
  omega

/-- The input whole is every task's share of it. -/
theorem x_dealt (d : Dev nD) (f : Buf (Elt F) (xLoc d)) :
    (xLoc d ↦{fullShare} f : sProp 𝕄) = bigSep Finset.univ fun c : Fin 2 => bigSep Finset.univ fun i : Fin 16 => xLoc d ↦{xShare c i} f := by
  rw [Transfers.pointsTo_deal (Finset.univ : Finset (Fin 2)) Finset.univ_nonempty fullShare]
  refine bigSep_congr fun c _ => ?_
  rw [Transfers.pointsTo_deal (Finset.univ : Finset (Fin 16)) Finset.univ_nonempty]
  rfl

/-- The output whole is every task's block of it. -/
theorem o_dealt (d : Dev nD) (f : Buf (Elt F) (oLoc d)) :
    (oLoc d ↦{fullShare} f : sProp 𝕄) = bigSep Finset.univ fun c : Fin 2 => bigSep Finset.univ fun i : Fin 16 => oLoc d ↦[oSet (c, i)]{fullShare} f := by
  rw [← bigSep_univ_prod (fun p : Fin 2 × Fin 16 => (oLoc d ↦[oSet p]{fullShare} f : sProp 𝕄)), ← pointsTo_biUnion (ℓ := oLoc d) Finset.univ oSet oSets_disjoint, oSets_cover]
  try rfl

variable [FloatOps F]
variable (m : (ℓ : Loc nD τ sig) → Buf (Elt F) ℓ)

/-- What tile `i` of core `c` is handed: its share of the input, its block of the output. -/
abbrev takes (d : Dev nD) (c : Fin 2) (i : Fin 16) : sProp 𝕄 :=
  iprop((xLoc d ↦{xShare c i} m (xLoc d)) ∗ (oLoc d ↦[oSet (c, i)]{fullShare} m (oLoc d)))
/-- What it hands back: the share, and the block at the call's value. -/
abbrev backs (d : Dev nD) (c : Fin 2) (i : Fin 16) : sProp 𝕄 :=
  iprop((xLoc d ↦{xShare c i} m (xLoc d)) ∗ (oLoc d ↦[oSet (c, i)]{fullShare} scOut (m (xLoc d))))

theorem nCore_eq : (K (F := F)).nCore 0 = 2 := rfl
theorem nSub_eq : (K (F := F)).nSub 0 = 16 := rfl

/-- What the call's handshakes carry: a core takes and gives what its tiles do. -/
def P : (K (F := F)).Pay (nD := nD) (Val := Elt F) (Name := ℕ) (U := UU) where
  st := fun q d c => match q with | 0 => bigSep Finset.univ fun i : Fin 16 => takes m d (Fin.cast nCore_eq c) i
  dn := fun q d c => match q with | 0 => bigSep Finset.univ fun i : Fin 16 => backs m d (Fin.cast nCore_eq c) i
  go := fun q d c i => match q with | 0 => takes m d (Fin.cast nCore_eq c) (Fin.cast nSub_eq i)
  td := fun q d c i => match q with | 0 => backs m d (Fin.cast nCore_eq c) (Fin.cast nSub_eq i)
  x := fun _ _ => iprop(emp)

instance P_storable : (P (F := F) m).IsStorable where
  st q d c := match q with
    | 0 => (inferInstance : BI.Storable (upEmb : UEmb _ 𝕄) (bigSep Finset.univ fun i : Fin 16 => takes m d (Fin.cast nCore_eq c) i))
  dn q d c := match q with
    | 0 => (inferInstance : BI.Storable (upEmb : UEmb _ 𝕄) (bigSep Finset.univ fun i : Fin 16 => backs m d (Fin.cast nCore_eq c) i))
  go q d c i := match q with
    | 0 => (inferInstance : BI.Storable (upEmb : UEmb _ 𝕄) (takes m d (Fin.cast nCore_eq c) (Fin.cast nSub_eq i)))
  td q d c i := match q with
    | 0 => (inferInstance : BI.Storable (upEmb : UEmb _ 𝕄) (backs m d (Fin.cast nCore_eq c) (Fin.cast nSub_eq i)))

section Tile

variable (d : Dev nD) (L : grid0.Coords)

/-- The task's three counters are among the subcore's own. -/
theorem ownSems_split :
    (ownSems0 (thrV d L) : sProp 𝕄)
      = iprop(semVal (cell6 d L) 0 ∗ semVal (cell7 d L) 0 ∗ semVal (cellO d L) 0
          ∗ bigSep ((((ownCells (thrV d L)).erase (cell6 d L)).erase (cell7 d L)).erase (cellO d L)) fun g => semVal g 0) := by
  have h6 : cell6 d L ∈ ownCells (thrV d L) := mem_ownCells.mpr ⟨rfl, show (SemLoc.dma cc0_scratch2.sem : SemLoc sig).isScoped .scVector = true by decide⟩
  have h7 : cell7 d L ∈ ownCells (thrV d L) := mem_ownCells.mpr ⟨rfl, show (SemLoc.dma cc0_scratch3.sem : SemLoc sig).isScoped .scVector = true by decide⟩
  have hO : cellO d L ∈ ownCells (thrV d L) := mem_ownCells.mpr ⟨rfl, show (SemLoc.dma cc0_scoped0.sem : SemLoc sig).isScoped .scVector = true by decide⟩
  have n76 : cell7 d L ≠ cell6 d L := fun e => absurd (congrArg Prod.snd e) (show (SemLoc.dma cc0_scratch3.sem : SemLoc sig) ≠ .dma cc0_scratch2.sem by decide)
  have nO6 : cellO d L ≠ cell6 d L := fun e => absurd (congrArg Prod.snd e) (show (SemLoc.dma cc0_scoped0.sem : SemLoc sig) ≠ .dma cc0_scratch2.sem by decide)
  have nO7 : cellO d L ≠ cell7 d L := fun e => absurd (congrArg Prod.snd e) (show (SemLoc.dma cc0_scoped0.sem : SemLoc sig) ≠ .dma cc0_scratch3.sem by decide)
  unfold SparseCore.Cfg.ownSems0
  rw [SparseCore.bigSep_erase' h6, SparseCore.bigSep_erase' (Finset.mem_erase.mpr ⟨n76, h7⟩),
    SparseCore.bigSep_erase' (Finset.mem_erase.mpr ⟨nO7, Finset.mem_erase.mpr ⟨nO6, hO⟩⟩)]

/-- Its two buffers are among the subcore's own, at some contents. -/
theorem ownBufs_split :
    (ownBufs (thrV d L) : sProp 𝕄)
      = iprop((∃ f, bufV.view.loc (thrV d L) ↦{fullShare} f) ∗ (∃ f, rstV.view.loc (thrV d L) ↦{fullShare} f)
          ∗ bigSep (((ownRefs (τ := τ) (thrV d L).2).erase ((thrV d L).2.devRef cc0_scratch0)).erase ((thrV d L).2.devRef cc0_scratch1))
              fun b => iprop(∃ f, ((d, b) : Loc nD τ sig) ↦{fullShare} f)) := by
  have ne : (thrV d L).2.devRef cc0_scratch1 ≠ (thrV d L).2.devRef cc0_scratch0 := fun e =>
    absurd (Proc.devRef_injective _ e) (show (cc0_scratch1 : Ref sig .scVector) ≠ cc0_scratch0 by decide)
  unfold SparseCore.Cfg.ownBufs
  refine (SparseCore.bigSep_erase' (SparseCore.Cfg.mem_ownRefs_of_owner (p := (thrV d L).2) (b := (thrV d L).2.devRef cc0_scratch0) rfl)).trans ?_
  rw [SparseCore.bigSep_erase' (Finset.mem_erase.mpr ⟨ne, SparseCore.Cfg.mem_ownRefs_of_owner (p := (thrV d L).2) (b := (thrV d L).2.devRef cc0_scratch1) rfl⟩)]

end Tile

/-- The task on tile `i` of core `c`, from what the dispatch hands it, back to what the dispatch takes. -/
theorem tile_body (d : Dev nD) (c : Fin 2) (i : Fin 16) (hF : (K (F := F)).Facts) (O : CellTallies nD τ sig (HIx 1)) (W : Waits sig (HIx 1)) (hO : ∀ g, O g none = 0) :
    iprop(levAts (K (F := F)).L (K (F := F)).lev ∗ emp ∗ takes m d c i
        ∗ scopedBufs (thrV d (tileAt c i)) ∗ scopedSems0 (thrV d (tileAt c i)) ∗ owes (thrV d (tileAt c i)) O W : sProp 𝕄)
      ⊢ wp frame (wpE (defs₀ (F := F)) 𝒱₀ (thrV d (tileAt c i)) none) Set.univ
          (cc0_sc_topk (tileAt c i) xV (Memref.isWhole_whole _) oV (Memref.isWhole_whole _) bufV (Memref.isWhole_whole _) rstV (Memref.isWhole_whole _)
            cc0_scratch2 cc0_scratch3 cc0_scoped0)
          fun _ => iprop(backs m d c i ∗ scopedBufs (thrV d (tileAt c i)) ∗ scopedSems0 (thrV d (tileAt c i))
            ∗ ∃ W', ⌜∀ p ∈ W', p ∈ W ∨ p.2 = none ∨ p.2 = some (0 : Fin 1)⌝ ∗ owes (thrV d (tileAt c i)) O W') := by
  rw [show (scopedBufs (thrV d (tileAt c i)) : sProp 𝕄) = _ from (K (F := F)).scopedBufs_V hF d _ _,
    show (scopedSems0 (thrV d (tileAt c i)) : sProp 𝕄) = _ from SparseCore.Cfg.scopedSems0_V (Val := Elt F) d _ _, ownSems_split, ownBufs_split]
  iintro ⟨#Hlv, -, ⟨Hx, Ho⟩, ⟨⟨%fb, Hb⟩, ⟨%fr, Hr⟩, Hbufs⟩, ⟨H6, H7, HO6, Hsems⟩, HO⟩
  ihave Hmw := (show levAts (K (F := F)).L (K (F := F)).lev ⊢ Transfers.MayWaits (thrV d (tileAt c i)) (default : HIx 1) O from
    (K (F := F)).mayWaits_none (thr := thrV d (tileAt c i)) hO) $$ Hlv
  iapply (wp_wand_r frame _ Set.univ)
  isplitr [Hbufs Hsems]
  · iapply (tile_core d (tileAt c i) O W (xShare c i) (m (xLoc d)) (m (oLoc d)) fb fr)
    isplitr
    · iexact Hmw
    isplitl [Hx]
    · iexact Hx
    isplitl [Ho]
    · iexact Ho
    isplitl [Hb]
    · iexact Hb
    isplitl [Hr]
    · iexact Hr
    isplitl [H6]
    · iexact H6
    isplitl [H7]
    · iexact H7
    isplitl [HO6]
    · iexact HO6
    iexact HO
  iintro %u ⟨Hx, Ho, Hb, Hr, H6, H7, HO6, %W', %hW', HO⟩
  isplitl [Hx Ho]
  · isplitl [Hx]
    · iexact Hx
    · iexact Ho
  isplitl [Hb Hr Hbufs]
  · isplitl [Hb]
    · iexact Hb
    isplitl [Hr]
    · iexact Hr
    iexact Hbufs
  isplitl [H6 H7 HO6 Hsems]
  · isplitl [H6]
    · iexact H6
    isplitl [H7]
    · iexact H7
    isplitl [HO6]
    · iexact HO6
    iexact Hsems
  iexists W'
  isplitr
  · ipureintro
    exact fun p hp => (hW' p hp).imp_right Or.inl
  · iexact HO

theorem defs₀_vector (c : Fin τ.nSC) (s : Fin τ.nSub) :
    defs₀ (F := F) (.scVector c s) 0 ()
      = SparseCore.onTile hcore0 hsub0 (fun c s => cc0_sc_topk (tileAt c s)
          xV (Memref.isWhole_whole _) oV (Memref.isWhole_whole _) bufV (Memref.isWhole_whole _) rstV (Memref.isWhole_whole _)
            cc0_scratch2 cc0_scratch3 cc0_scoped0) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d ⟨c.val, c.isLt⟩ ⟨i.val, i.isLt⟩ hF O W hO

/-- A core's operands are its tiles', and its results theirs. -/
theorem vecSplit : (K (F := F)).VecSplit' (P m) 0 := by
  intro d c
  show (bigSep Finset.univ fun i : Fin 16 => takes m d (Fin.cast nCore_eq c) i) ⊢ |={Set.univ}=> iprop(
      (bigSep Finset.univ fun i : Fin 16 => takes m d (Fin.cast nCore_eq c) i)
      ∗ ((bigSep Finset.univ fun i : Fin 16 => backs m d (Fin.cast nCore_eq c) i) -∗ bigSep Finset.univ fun i : Fin 16 => backs m d (Fin.cast nCore_eq c) i))
  iintro H
  imodintro
  isplitl [H]
  · iexact H
  iintro H
  iexact H

/-- What the call takes: the input and the output whole. -/
theorem st_eq (d : Dev nD) : (bigSep Finset.univ fun c : Fin ((K (F := F)).nCore 0) => (P m).st 0 d c)
    = iprop((xLoc d ↦{fullShare} m (xLoc d)) ∗ (oLoc d ↦{fullShare} m (oLoc d))) := by
  show (bigSep Finset.univ fun c : Fin 2 => bigSep Finset.univ fun i : Fin 16 => takes m d c i) = _
  rw [x_dealt, o_dealt, ← bigSep_sep']
  exact bigSep_congr fun c _ => by rw [bigSep_sep']

/-- What it gives: the input, and the output at the call's value. -/
theorem dn_eq (d : Dev nD) : (bigSep Finset.univ fun c : Fin ((K (F := F)).nCore 0) => (P m).dn 0 d c)
    = iprop((xLoc d ↦{fullShare} m (xLoc d)) ∗ (oLoc d ↦{fullShare} scOut (m (xLoc d)))) := by
  show (bigSep Finset.univ fun c : Fin 2 => bigSep Finset.univ fun i : Fin 16 => backs m d c i) = _
  rw [x_dealt, o_dealt, ← bigSep_sep']
  exact bigSep_congr fun c _ => by rw [bigSep_sep']

end Cert.TopEight

end
-- ==== Proof.Block.lean ====
/- The first TensorCore kernel's body: the block's 2560 rows taken eight blocks of eight at a time into the running eight, then
   eight selections from the sixty-four left. -/
module

public import proofs.«01_k».proof.Proof.Deal

@[expose] public section

set_option maxRecDepth 16384

noncomputable section

namespace Cert.TopEight

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- Rows `8 r` to `8 r + 7` of the block. -/
def tcRows (A : S1x2560x128.Idx → F .f32) (r : ℕ) : FVec F S8x128 .f32 := fun y => A (ix3 0 (Fin.ofNat 2560 (8 * r + (y 0).val)) (y 1))

/-- The running eight, each eight rows of 128 lanes, after the first `n` trips. -/
def tcRun (A : S1x2560x128.Idx → F .f32) (n : ℕ) : Fin 8 → FVec F S8x128 .f32 :=
  stepN maximumf minimumf (fun _ => broadcast S8x128 (negInf (F := F))) (tcRows A) n

/-- The eight selections from the sixty-four running rows, as the program spells them. -/
def tcPick (v : Fin 8 → FVec F S8x128 .f32) : S1x8x128.Idx → F .f32 :=
  have row : IVec S64x128 32 := iota .tc S64x128 32 [0] iota_S64x128_d0_w32
  have w : FVec F S64x128 .f32 := k1_pay84 (v 0) (v 1) (v 2) (v 3) (v 4) (v 5) (v 6) (v 7)
  k1_pay1 row (k1_pay81 (v 0) (v 1) (v 2) (v 3) (v 4) (v 5) (v 6) (v 7)) (k1_pay83 (v 0) (v 1) (v 2) (v 3) (v 4) (v 5) (v 6) (v 7))
    (k1_pay85 w) (k1_pay87 row w) (k1_pay89 row w) (k1_pay90 row w) (k1_pay91 row w) (k1_pay92 row w) (k1_pay93 row w)

/-- What the kernel leaves of a block. -/
def tcVal (A : S1x2560x128.Idx → F .f32) : S1x8x128.Idx → F .f32 := tcPick (tcRun A 40)

theorem tcOff (k : Fin 40) (j : Fin 8) : k1_off1 k (BitVec.ofNat 32 (8 * j.val)) = ![0, 8 * (8 * k.val + j.val), 0] := by
  revert k j; decide +kernel

section

variable (arg2 : Memref sig .tc .vmem S1x2560x128 .f32)

/-- Trip `k`'s load of its block `j` of eight rows. -/
def tcLd (k : Fin 40) (j : Fin 8) : Prog (TpuEff nD τ sig (Elt F) Λ₀ .tc) (Vec F S1x8x128 .f32) :=
  Prog.lift (.load arg2 (Rect.unit (s := S1x2560x128) (k1_off1 k (BitVec.ofNat 32 (8 * j.val))) S1x8x128.size (k1_off1_inb k j)).toLoadRect (View.loadsAt_vmem h_S1x8x128))

/-- The loaded block without its unit axis. -/
def sT (v : Vec F S1x8x128 .f32) : FVec F S8x128 .f32 := shapeCast S8x128 v shapeCasts_S1x8x128_S8x128

/-- A trip of the kernel's loop. -/
def tcTrip (k : Fin 40) (acc : FVec F S8x128 .f32 × FVec F S8x128 .f32 × FVec F S8x128 .f32 × FVec F S8x128 .f32 × FVec F S8x128 .f32 × FVec F S8x128 .f32 × FVec F S8x128 .f32 × FVec F S8x128 .f32) :
    Prog (TpuEff nD τ sig (Elt F) Λ₀ .tc) (FVec F S8x128 .f32 × FVec F S8x128 .f32 × FVec F S8x128 .f32 × FVec F S8x128 .f32 × FVec F S8x128 .f32 × FVec F S8x128 .f32 × FVec F S8x128 .f32 × FVec F S8x128 .f32) := do
  let v0 ← tcLd arg2 k 0
  let v1 ← tcLd arg2 k 1
  let v2 ← tcLd arg2 k 2
  let v3 ← tcLd arg2 k 3
  let v4 ← tcLd arg2 k 4
  let v5 ← tcLd arg2 k 5
  let v6 ← tcLd arg2 k 6
  let v7 ← tcLd arg2 k 7
  pure (tup8 (step maximumf minimumf (untup8 acc) ![sT v0, sT v1, sT v2, sT v3, sT v4, sT v5, sT v6, sT v7]))

set_option maxHeartbeats 1000000 in
theorem tcTrip_eq (i : grid1.Coords) (harg2 : arg2.IsWhole) (arg3 : Memref sig .tc .vmem S1x8x128 .f32) (harg3 : arg3.IsWhole) (k : Fin k1_t1_loop.trips) (acc) :
    k1_t1_body (F := F) i arg2 harg2 arg3 harg3 k acc = tcTrip arg2 k acc := by
  obtain ⟨a0, a1, a2, a3, a4, a5, a6, a7⟩ := acc
  unfold k1_t1_body tcTrip
  simp only [k1_part1_eq_skeleton, k1_part2_eq_skeleton]
  unfold k1_part1_skel k1_part2_skel
  simp only [bind_assoc, pure_bind]
  with_unfolding_all rfl

end

/-- The eight rows as loaded. -/
theorem sT_read (k : Fin 40) (j : Fin 8) (A : S1x2560x128.Idx → F .f32) :
    sT (F := F) (fun x => A ((Rect.unit (s := S1x2560x128) (k1_off1 k (BitVec.ofNat 32 (8 * j.val))) S1x8x128.size (k1_off1_inb k j)).toLoadRect.idx x)) = tcRows A (8 * k.val + j.val) := by
  funext y
  idx_vars y
  unfold sT tcRows
  pointwise
  have h := tcOff k j
  refine congrArg A (congr (congr (congrArg ix3 (Fin.ext ?_)) (Fin.ext ?_)) (Fin.ext ?_))
  · exact congrFun h 0
  · refine (congrArg (· + y0.val) (congrFun h 1)).trans (Nat.mod_eq_of_lt ?_).symm
    show 8 * (8 * k.val + j.val) + y0.val < 2560; omega
  · exact (congrArg (· + y1.val) (congrFun h 2)).trans (Nat.zero_add _)

section

variable (c : Dev nD) (arg2 : Memref sig .tc .vmem S1x2560x128 .f32) {α : Type} {Q : α → sProp (MM F)}

/-- A load of eight rows, the block held. -/
theorem wp_tcLd (k : Fin 40) (j : Fin 8) (q : PosShare TreeShare) (A : S1x2560x128.Idx → F .f32)
    (kk : Vec F S1x8x128 .f32 → Prog (TpuEff nD τ sig (Elt F) Λ₀ .tc) α) :
    (owns (T c) arg2 q A : sProp 𝕄)
      ⊢ iprop((owns (T c) arg2 q A -∗ wp frame (wpE (defs₀ (F := F)) 𝒱₀ (T c) none) Set.univ
            (kk fun x => A ((Rect.unit (s := S1x2560x128) (k1_off1 k (BitVec.ofNat 32 (8 * j.val))) S1x8x128.size (k1_off1_inb k j)).toLoadRect.idx x)) Q)
        -∗ wp frame (wpE (defs₀ (F := F)) 𝒱₀ (T c) none) Set.univ (tcLd arg2 k j >>= kk) Q) := by
  unfold owns
  iintro ⟨%f, %hf, H⟩ HK
  subst hf
  iapply (wp_load (c := T c) (m := arg2) (r := (Rect.unit (s := S1x2560x128) (k1_off1 k (BitVec.ofNat 32 (8 * j.val))) S1x8x128.size (k1_off1_inb k j)).toLoadRect) (S := arg2.view.set) (q := q) (f := f) 𝒱₀ none Set.univ (View.setOn_subset_set _ _)) $$ H
  iintro H
  iapply HK
  iexists f
  isplitr
  · ipureintro; rfl
  · iexact H

/-- A trip takes the running eight through sixty-four more rows. -/
theorem wp_tcTrip (k : Fin 40) (q : PosShare TreeShare) (A : S1x2560x128.Idx → F .f32) :
    (owns (T c) arg2 q A : sProp 𝕄)
      ⊢ wp frame (wpE (defs₀ (F := F)) 𝒱₀ (T c) none) Set.univ (tcTrip arg2 k (tup8 (tcRun A k.val))) fun r =>
          iprop(⌜r = tup8 (tcRun A (k.val + 1))⌝ ∗ owns (T c) arg2 q A) := by
  unfold tcTrip
  iintro H
  iapply (wp_tcLd c arg2 k 0 q A) $$ H; iintro H
  iapply (wp_tcLd c arg2 k 1 q A) $$ H; iintro H
  iapply (wp_tcLd c arg2 k 2 q A) $$ H; iintro H
  iapply (wp_tcLd c arg2 k 3 q A) $$ H; iintro H
  iapply (wp_tcLd c arg2 k 4 q A) $$ H; iintro H
  iapply (wp_tcLd c arg2 k 5 q A) $$ H; iintro H
  iapply (wp_tcLd c arg2 k 6 q A) $$ H; iintro H
  iapply (wp_tcLd c arg2 k 7 q A) $$ H; iintro H
  simp only [sT_read]
  rw [show (pure : _ → Prog (TpuEff nD τ sig (Elt F) Λ₀ .tc) _) = Prog.ret from rfl, wp_ret]
  imodintro
  isplitr
  · ipureintro
    refine congrArg tup8 ?_
    refine Eq.trans (b := step maximumf minimumf (tcRun A k.val) fun j => tcRows A (8 * k.val + j.val)) ?_ rfl
    refine congr (congrArg (step maximumf minimumf) (funext fun j => ?_)) (funext fun j => ?_) <;> fin_cases j <;> rfl
  · iexact H

end

theorem hz3 : (![0, 0, 0] : Fin 3 → ℕ) = fun _ => 0 := funext fun a => by fin_cases a <;> rfl

/-- A whole store leaves the stored value, through any whole memref. -/
theorem read_writes_full {s : Shape} {e : EltTy} {κ : Kind} {sp : Space} (v : View sig κ sp s e) (f : v.ty.Contents (Elt F)) (w : s.Idx → Elt F e)
    {off : Fin s.rank → ℕ} (h : off = fun _ => 0) (inb : ∀ a, off a + s.size a ≤ s.size a) :
    v.read (Elt F) (v.writes (Elt F) f [⟨Rect.unit (s := s) off s.size inb, w⟩]) = w := by
  subst h
  funext y
  refine View.read_writes_apply_of_pieces (Val := Elt F) v f w _ ?_ y ?_
  · intro p hp x
    obtain rfl := List.mem_singleton.mp hp
    refine congrArg w (funext fun a => Fin.ext ?_)
    show (x a).val = 0 + 1 * (x a).val
    omega
  · refine ⟨_, List.mem_singleton_self _, ?_⟩
    rw [Rect.mem_set_unit]
    exact fun a => ⟨Nat.zero_le _, by have := (y a).isLt; show (y a).val < 0 + s.size a; omega⟩

section

variable (c : Dev nD)

/-- The kernel's body: from a block `A` and any contents of the result's buffer, the block unchanged and the result at
    `tcVal A`. -/
theorem wp_tcBody (i : grid1.Coords) (arg2 : Memref sig .tc .vmem S1x2560x128 .f32) (harg2 : arg2.IsWhole) (arg3 : Memref sig .tc .vmem S1x8x128 .f32) (harg3 : arg3.IsWhole)
    (q : PosShare TreeShare) (A : S1x2560x128.Idx → F .f32) (B : S1x8x128.Idx → F .f32) :
    iprop(owns (T c) arg2 q A ∗ owns (T c) arg3 fullShare B : sProp 𝕄)
      ⊢ wp frame (wpE (defs₀ (F := F)) 𝒱₀ (T c) none) Set.univ (cc1__tc_body (F := F) i arg2 harg2 arg3 harg3) fun _ =>
          iprop(owns (T c) arg2 q A ∗ owns (T c) arg3 fullShare (tcVal A)) := by
  rw [cc1__tc_body_eq_skeleton]
  unfold cc1__tc_body_skel
  rw [k1_part3_eq_skeleton]
  unfold k1_part3_skel
  rw [k1_part4_eq_skeleton]
  unfold k1_part4_skel
  simp only [bind_assoc, pure_bind]
  iintro ⟨HA, HB⟩
  iapply (Scf.wp_for_bind frame (wpE (defs₀ (F := F)) 𝒱₀ (T c) none) Set.univ _ _ _ _ _ _
    (fun n acc => iprop(⌜acc = tup8 (tcRun A n)⌝ ∗ owns (T c) arg2 q A : sProp 𝕄))) $$ [HA]
  · intro k acc
    iintro ⟨%h, HA⟩
    subst h
    rw [tcTrip_eq]
    iapply (wp_tcTrip c arg2 k q A)
    iexact HA
  · isplitr
    · ipureintro; rfl
    · iexact HA
  iintro %acc ⟨%h, HA⟩
  subst h
  unfold owns
  icases HB with ⟨%f, %hf, HB⟩
  subst hf
  simp only [Prog.lift, Prog.bind_op, Prog.bind_ret]
  iapply (wp_load (c := T c) (m := arg3) (S := arg3.view.set) (q := fullShare) (f := f) 𝒱₀ none Set.univ (View.setOn_subset_set _ _)) $$ HB
  iintro HB
  iapply (wp_store_writes₀ (m := arg3) (S := arg3.view.set) (f := f) 𝒱₀ (T c) none Set.univ (View.set_slice_subset _ _)) $$ HB
  iintro HB
  rw [show (pure : _ → Prog (TpuEff nD τ sig (Elt F) Λ₀ .tc) PUnit) = Prog.ret from rfl, wp_ret]
  imodintro
  isplitl [HA]
  · iexact HA
  iexists _
  isplitr
  swap
  · iexact HB
  · ipureintro
    rw [read_writes_full arg3.view f _ hz3]
    rfl

end

end Cert.TopEight

end
-- ==== Proof.Rounds.lean ====
/- One selection round on a block of rows: the greatest of each column, and the block after its first row that reaches it is
   struck out.  Both TensorCore kernels run eight of them, on blocks of different extents. -/
module

public import proofs.«01_k».proof.Proof.Block

@[expose] public section

set_option maxRecDepth 16384

noncomputable section

namespace Cert.TopEight

open Cert.KernelIdeal Cert.KernelIdeal.Gen
open Idealize.ShloMosaic

variable {F : FTy → Type} [FloatOps F]

/-- A block of `n` rows of `m` lanes. -/
abbrev blk (n m : ℕ) : Shape := ⟨2, ![n, m]⟩
/-- One word a lane. -/
abbrev lane (m : ℕ) : Shape := ⟨1, ![m]⟩

/-- What a round's operations ask of the extents. -/
structure Fit (n m : ℕ) : Prop where
  red : (blk n m).Reduces [0] (lane m)
  cast : (lane m).ShapeCasts (blk 1 m)
  spread : (blk 1 m).Broadcasts (blk n m)
  count : (blk n m).Iotas .tc 32 [0]

section

variable {n m : ℕ} (h : Fit n m) (v : FVec F (blk n m) .f32)

/-- The greatest of each column. -/
def greatest : FVec F (blk 1 m) .f32 :=
  shapeCast (blk 1 m) (multiReduction .maximumf [0] (lane m) v 0xFF800000#32 h.red (.inl rfl) rfl) h.cast

/-- Where a column's entry is its greatest. -/
def reaches : IVec (blk n m) 1 := cmpf .oeq v (broadcastTo (blk n m) (greatest h v) h.spread)

/-- Each entry's row. -/
def rowNo : IVec (blk n m) 32 := iota .tc (blk n m) 32 [0] h.count

/-- The first row that reaches its column's greatest, on every row. -/
def firstRow : IVec (blk n m) 32 :=
  broadcastTo (blk n m) (shapeCast (blk 1 m) (multiReductionI .minsi [0] (lane m)
    (select (reaches h v) (rowNo h) (broadcast (blk n m) (BitVec.ofNat 32 n))) 2147483647#32 h.red rfl) h.cast) h.spread

/-- The block with that row's entry of each column at −∞. -/
def struck : FVec F (blk n m) .f32 :=
  select (andi (reaches h v) (cmpi .eq (rowNo h) (firstRow h v))) (broadcast (blk n m) (negInf (F := F))) v

/-- The block after `k` rounds. -/
def rounds : ℕ → FVec F (blk n m) .f32
  | 0 => v
  | k + 1 => struck h (rounds k)

end

theorem fit64 : Fit 64 128 := ⟨reduces_S64x128_S128, shapeCasts_S128_S1x128, broadcasts_S1x128_S64x128, iota_S64x128_d0_w32⟩
theorem fit72 : Fit 72 1024 := ⟨reduces_S72x1024_S1024, shapeCasts_S1024_S1x1024, broadcasts_S1x1024_S72x1024, iota_S72x1024_d0_w32⟩

/-- The sixty-four rows left of a block: the running eight one above the other. -/
def stacked (v : Fin 8 → FVec F S8x128 .f32) : FVec F (blk 64 128) .f32 :=
  concatenate S64x128 0 [⟨S8x128, v 0⟩, ⟨S8x128, v 1⟩, ⟨S8x128, v 2⟩, ⟨S8x128, v 3⟩, ⟨S8x128, v 4⟩, ⟨S8x128, v 5⟩, ⟨S8x128, v 6⟩, ⟨S8x128, v 7⟩]
    concatenates_S8x128_S8x128_S8x128_S8x128_S8x128_S8x128_S8x128_S8x128_S64x128_d0

/-- The eight greatest of each column of sixty-four rows, one above the other. -/
def best64 (w : FVec F (blk 64 128) .f32) : S1x8x128.Idx → F .f32 :=
  shapeCast S1x8x128 (concatenate S8x128 0 [⟨S1x128, greatest fit64 (rounds fit64 w 0)⟩, ⟨S1x128, greatest fit64 (rounds fit64 w 1)⟩,
    ⟨S1x128, greatest fit64 (rounds fit64 w 2)⟩, ⟨S1x128, greatest fit64 (rounds fit64 w 3)⟩, ⟨S1x128, greatest fit64 (rounds fit64 w 4)⟩,
    ⟨S1x128, greatest fit64 (rounds fit64 w 5)⟩, ⟨S1x128, greatest fit64 (rounds fit64 w 6)⟩, ⟨S1x128, greatest fit64 (rounds fit64 w 7)⟩]
    concatenates_S1x128_S1x128_S1x128_S1x128_S1x128_S1x128_S1x128_S1x128_S8x128_d0) shapeCasts_S8x128_S1x8x128

set_option maxHeartbeats 2000000 in
/-- The first kernel's selections are eight rounds on its sixty-four rows. -/
theorem tcPick_eq (v : Fin 8 → FVec F S8x128 .f32) : tcPick v = best64 (stacked v) := by
  unfold tcPick
  with_unfolding_all rfl

/-- One batch's candidates: eight rows of the TensorCore's and sixty-four of the SparseCore's. -/
def cands (a : FVec F S1x8x1024 .f32) (b : FVec F S1x64x1024 .f32) : FVec F (blk 72 1024) .f32 :=
  concatenate S72x1024 0 [⟨S8x1024, shapeCast S8x1024 a shapeCasts_S1x8x1024_S8x1024⟩, ⟨S64x1024, shapeCast S64x1024 b shapeCasts_S1x64x1024_S64x1024⟩]
    concatenates_S8x1024_S64x1024_S72x1024_d0

/-- The eight greatest of each column of seventy-two rows, side by side. -/
def best72 (w : FVec F (blk 72 1024) .f32) : FVec F S1x1024x8 .f32 :=
  shapeCast S1x1024x8 (transpose S1024x8 [1, 0] (concatenate S8x1024 0 [⟨S1x1024, greatest fit72 (rounds fit72 w 0)⟩, ⟨S1x1024, greatest fit72 (rounds fit72 w 1)⟩,
    ⟨S1x1024, greatest fit72 (rounds fit72 w 2)⟩, ⟨S1x1024, greatest fit72 (rounds fit72 w 3)⟩, ⟨S1x1024, greatest fit72 (rounds fit72 w 4)⟩,
    ⟨S1x1024, greatest fit72 (rounds fit72 w 5)⟩, ⟨S1x1024, greatest fit72 (rounds fit72 w 6)⟩, ⟨S1x1024, greatest fit72 (rounds fit72 w 7)⟩]
    concatenates_S1x1024_S1x1024_S1x1024_S1x1024_S1x1024_S1x1024_S1x1024_S1x1024_S8x1024_d0) transposes_S8x1024_p1_0_S1024x8) shapeCasts_S1024x8_S1x1024x8

end Cert.TopEight

end
-- ==== Proof.Merge.lean ====
/- The second TensorCore kernel's body: for each of the four batches, eight selections from the seventy-two candidates. -/
module

public import proofs.«01_k».proof.Proof.Rounds

@[expose] public section

set_option maxRecDepth 16384

noncomputable section

namespace Cert.TopEight

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- Batch `b` of the TensorCore's candidates. -/
def batch8 (A : S4x8x1024.Idx → F .f32) (b : Fin 4) : FVec F S1x8x1024 .f32 := fun y => A (ix3 b (y 1) (y 2))
/-- Batch `b` of the SparseCore's candidates. -/
def batch64 (B : S4x64x1024.Idx → F .f32) (b : Fin 4) : FVec F S1x64x1024 .f32 := fun y => B (ix3 b (y 1) (y 2))

/-- What the kernel leaves: batch by batch, the eight greatest of each column of the candidates. -/
def mergeVal (A : S4x8x1024.Idx → F .f32) (B : S4x64x1024.Idx → F .f32) : S4x1024x8.Idx → F .f32 :=
  fun y => best72 (cands (batch8 A (y 0)) (batch64 B (y 0))) (ix3 0 (y 1) (y 2))

theorem inb8 (b : Fin 4) : ∀ a, (![b.val, 0, 0] : Fin 3 → ℕ) a + S1x8x1024.size a ≤ S4x8x1024.size a := by revert b; decide +kernel
theorem inb64 (b : Fin 4) : ∀ a, (![b.val, 0, 0] : Fin 3 → ℕ) a + S1x64x1024.size a ≤ S4x64x1024.size a := by revert b; decide +kernel
theorem inbO (b : Fin 4) : ∀ a, (![b.val, 0, 0] : Fin 3 → ℕ) a + S1x1024x8.size a ≤ S4x1024x8.size a := by revert b; decide +kernel

section

variable (arg0 : Memref sig .tc .vmem S4x8x1024 .f32) (arg1 : Memref sig .tc .vmem S4x64x1024 .f32) (arg2 : Memref sig .tc .vmem S4x1024x8 .f32)

/-- The kernel's work on batch `b`. -/
def batchOf (b : Fin 4) : Prog (TpuEff nD τ sig (Elt F) Λ₀ .tc) PUnit := do
  let v1 : Vec F S1x8x1024 .f32 ← Prog.lift (.load arg0 (Rect.unit (s := S4x8x1024) ![b.val, 0, 0] S1x8x1024.size (inb8 b)).toLoadRect (View.loadsAt_vmem h_S1x8x1024))
  let v3 : Vec F S1x64x1024 .f32 ← Prog.lift (.load arg1 (Rect.unit (s := S4x64x1024) ![b.val, 0, 0] S1x64x1024.size (inb64 b)).toLoadRect (View.loadsAt_vmem h_S1x64x1024))
  let _ : Vec F S1x1024x8 .f32 ← Prog.lift (.load arg2 (Rect.unit (s := S4x1024x8) ![b.val, 0, 0] S1x1024x8.size (inbO b)).toLoadRect (View.loadsAt_vmem h_S1x1024x8))
  Prog.lift (.store arg2 (Rect.unit (s := S4x1024x8) ![b.val, 0, 0] S1x1024x8.size (inbO b)) (best72 (cands v1 v3)) Finset.univ (View.stores_vmem_bits_univ h_S1x1024x8 rfl) (.inl rfl))

set_option maxHeartbeats 4000000 in
/-- The kernel is its four batches, one after the other. -/
theorem merge_eq (harg0 : arg0.IsWhole) (harg1 : arg1.IsWhole) (harg2 : arg2.IsWhole) :
    cc2__merge_body (F := F) arg0 harg0 arg1 harg1 arg2 harg2 = (do
      batchOf arg0 arg1 arg2 0
      batchOf arg0 arg1 arg2 1
      batchOf arg0 arg1 arg2 2
      batchOf arg0 arg1 arg2 3
      pure ⟨⟩) := by
  rw [cc2__merge_body_eq_skeleton]
  unfold cc2__merge_body_skel batchOf
  simp only [k2_part1_eq_skeleton, k2_part2_eq_skeleton, k2_part3_eq_skeleton, k2_part4_eq_skeleton, k2_part5_eq_skeleton,
    k2_part6_eq_skeleton, k2_part7_eq_skeleton, k2_part8_eq_skeleton, k2_part9_eq_skeleton]
  unfold k2_part1_skel k2_part2_skel k2_part3_skel k2_part4_skel k2_part5_skel k2_part6_skel k2_part7_skel k2_part8_skel k2_part9_skel
  simp only [bind_assoc, pure_bind]
  with_unfolding_all rfl

end

section

variable (c : Dev nD)
variable (arg0 : Memref sig .tc .vmem S4x8x1024 .f32) (arg1 : Memref sig .tc .vmem S4x64x1024 .f32) (arg2 : Memref sig .tc .vmem S4x1024x8 .f32)
variable {α : Type} {Q : α → sProp (MM F)}

/-- Batches below `n` of the result in place. -/
def placed (A : S4x8x1024.Idx → F .f32) (B : S4x64x1024.Idx → F .f32) (n : ℕ) (C : S4x1024x8.Idx → F .f32) : Prop :=
  ∀ y : S4x1024x8.Idx, (y 0).val < n → C y = mergeVal A B y

/-- A load of one batch is that batch. -/
theorem read_batch8 (b : Fin 4) (A : S4x8x1024.Idx → F .f32) :
    (fun x => A ((Rect.unit (s := S4x8x1024) ![b.val, 0, 0] S1x8x1024.size (inb8 b)).toLoadRect.idx x)) = batch8 A b := by
  funext y
  idx_vars y
  unfold batch8
  refine congrArg A (funext fun a => Fin.ext ?_)
  match a with
  | ⟨0, _⟩ => show b.val + 1 * y0.val = b.val; omega
  | ⟨1, _⟩ => show 0 + 1 * y1.val = y1.val; omega
  | ⟨2, _⟩ => show 0 + 1 * y2.val = y2.val; omega

/-- A load of one batch is that batch. -/
theorem read_batch64 (b : Fin 4) (B : S4x64x1024.Idx → F .f32) :
    (fun x => B ((Rect.unit (s := S4x64x1024) ![b.val, 0, 0] S1x64x1024.size (inb64 b)).toLoadRect.idx x)) = batch64 B b := by
  funext y
  idx_vars y
  unfold batch64
  refine congrArg B (funext fun a => Fin.ext ?_)
  match a with
  | ⟨0, _⟩ => show b.val + 1 * y0.val = b.val; omega
  | ⟨1, _⟩ => show 0 + 1 * y1.val = y1.val; omega
  | ⟨2, _⟩ => show 0 + 1 * y2.val = y2.val; omega

/-- One batch's work adds it to those in place. -/
theorem wp_batch (b : Fin 4) (k : ℕ) (hk : b.val = k) (q0 q1 : PosShare TreeShare) (A : S4x8x1024.Idx → F .f32) (B : S4x64x1024.Idx → F .f32)
    (kk : PUnit → Prog (TpuEff nD τ sig (Elt F) Λ₀ .tc) α) :
    iprop((owns (T c) arg0 q0 A ∗ owns (T c) arg1 q1 B ∗ ∃ C, ⌜placed A B k C⌝ ∗ owns (T c) arg2 fullShare C) : sProp 𝕄)
      ⊢ iprop(((owns (T c) arg0 q0 A ∗ owns (T c) arg1 q1 B ∗ ∃ C, ⌜placed A B (k + 1) C⌝ ∗ owns (T c) arg2 fullShare C)
          -∗ wp frame (wpE (defs₀ (F := F)) 𝒱₀ (T c) none) Set.univ (kk ⟨⟩) Q)
        -∗ wp frame (wpE (defs₀ (F := F)) 𝒱₀ (T c) none) Set.univ (batchOf arg0 arg1 arg2 b >>= kk) Q) := by
  subst hk
  unfold owns batchOf
  simp only [bind_assoc]
  iintro ⟨H0, H1, %C, %hC, H2⟩ HK
  icases H0 with ⟨%f0, %hf0, H0⟩
  icases H1 with ⟨%f1, %hf1, H1⟩
  icases H2 with ⟨%f2, %hf2, H2⟩
  subst hf0 hf1 hf2
  simp only [Prog.lift, Prog.bind_op, Prog.bind_ret]
  iapply (wp_load (c := T c) (m := arg0) (S := arg0.view.set) (q := q0) (f := f0) 𝒱₀ none Set.univ (View.setOn_subset_set _ _)) $$ H0
  iintro H0
  iapply (wp_load (c := T c) (m := arg1) (S := arg1.view.set) (q := q1) (f := f1) 𝒱₀ none Set.univ (View.setOn_subset_set _ _)) $$ H1
  iintro H1
  iapply (wp_load (c := T c) (m := arg2) (S := arg2.view.set) (q := fullShare) (f := f2) 𝒱₀ none Set.univ (View.setOn_subset_set _ _)) $$ H2
  iintro H2
  iapply (wp_store_writes₀ (m := arg2) (S := arg2.view.set) (f := f2) 𝒱₀ (T c) none Set.univ (View.set_slice_subset _ _)) $$ H2
  iintro H2
  iapply HK
  isplitl [H0]
  · iexists f0
    isplitr
    · ipureintro; rfl
    · iexact H0
  isplitl [H1]
  · iexists f1
    isplitr
    · ipureintro; rfl
    · iexact H1
  iexists _
  isplitr
  swap
  · iexists _
    isplitr
    swap
    · iexact H2
    · ipureintro; rfl
  · ipureintro
    intro y hy
    have e0 : View.readAt (Elt F) arg0.view (Rect.unit (s := S4x8x1024) ![b.val, 0, 0] S1x8x1024.size (inb8 b)).toLoadRect f0
        = batch8 (arg0.view.read (Elt F) f0) b := read_batch8 b (arg0.view.read (Elt F) f0)
    have e1 : View.readAt (Elt F) arg1.view (Rect.unit (s := S4x64x1024) ![b.val, 0, 0] S1x64x1024.size (inb64 b)).toLoadRect f1
        = batch64 (arg1.view.read (Elt F) f1) b := read_batch64 b (arg1.view.read (Elt F) f1)
    rw [e0, e1]
    by_cases h : (y 0).val = b.val
    · obtain rfl : y 0 = b := Fin.ext h
      refine (View.read_writes_cons_hit_of_coords (Val := Elt F) arg2.view f2 (Rect.unit (s := S4x1024x8) ![(y 0).val, 0, 0] S1x1024x8.size (inbO (y 0))) _ []
        (ix3 0 (y 1) (y 2)) y fun a => ?_).trans rfl
      match a with
      | ⟨0, _⟩ => show (y 0).val = (y 0).val + 1 * 0; omega
      | ⟨1, _⟩ => show (y 1).val = 0 + 1 * (y 1).val; omega
      | ⟨2, _⟩ => show (y 2).val = 0 + 1 * (y 2).val; omega
    · refine (View.read_writes_cons_miss_of_axis (Val := Elt F) arg2.view f2 _ [] y 0 b.val 1 rfl rfl rfl (by omega)).trans (hC y (by omega))

/-- The kernel's body: from the two candidate arrays `A` and `B` and any contents of the result's buffer, the candidates
    unchanged and the result at `mergeVal A B`. -/
theorem wp_mergeBody (harg0 : arg0.IsWhole) (harg1 : arg1.IsWhole) (harg2 : arg2.IsWhole) (q0 q1 : PosShare TreeShare)
    (A : S4x8x1024.Idx → F .f32) (B : S4x64x1024.Idx → F .f32) (C : S4x1024x8.Idx → F .f32) :
    iprop(owns (T c) arg0 q0 A ∗ owns (T c) arg1 q1 B ∗ owns (T c) arg2 fullShare C : sProp 𝕄)
      ⊢ wp frame (wpE (defs₀ (F := F)) 𝒱₀ (T c) none) Set.univ (cc2__merge_body (F := F) arg0 harg0 arg1 harg1 arg2 harg2) fun _ =>
          iprop(owns (T c) arg0 q0 A ∗ owns (T c) arg1 q1 B ∗ owns (T c) arg2 fullShare (mergeVal A B)) := by
  rw [merge_eq]
  iintro ⟨H0, H1, H2⟩
  iapply (wp_batch c arg0 arg1 arg2 0 0 rfl q0 q1 A B) $$ [H0 H1 H2]
  · isplitl [H0]; · iexact H0
    isplitl [H1]; · iexact H1
    iexists C
    isplitr
    · ipureintro; exact fun y hy => absurd hy (Nat.not_lt_zero _)
    · iexact H2
  iintro H
  iapply (wp_batch c arg0 arg1 arg2 1 1 rfl q0 q1 A B) $$ H; iintro H
  iapply (wp_batch c arg0 arg1 arg2 2 2 rfl q0 q1 A B) $$ H; iintro H
  iapply (wp_batch c arg0 arg1 arg2 3 3 rfl q0 q1 A B) $$ H; iintro H
  rw [show (pure : _ → Prog (TpuEff nD τ sig (Elt F) Λ₀ .tc) PUnit) = Prog.ret from rfl, wp_ret]
  imodintro
  icases H with ⟨H0, H1, %C', %hC, H2⟩
  isplitl [H0]; · iexact H0
  isplitl [H1]; · iexact H1
  obtain rfl : C' = mergeVal A B := funext fun y => hC y (y 0).isLt
  iexact H2

end

end Cert.TopEight

end
-- ==== Proof.Windows.lean ====
/- The two TensorCore calls as pipelines: what their windows' arrays hold at entry, what the body leaves in each
   staging buffer, the body obligations, and the result arrays after the last write-back in closed form. -/
module

public import proofs.«01_k».proof.Proof.Merge
public import proofs.«01_k».proof.Proof.Gen.KernelIdeal.Launch
public import proofs.«01_k».proof.Proof.Gen.KernelIdeal.Points
public import Idealize.ShloMosaic.Lib.Pipeline.ValueKit

@[expose] public section

set_option maxRecDepth 16384

noncomputable section

namespace Cert.TopEight

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The block of the input the first call works on at batch `b` and lane block `l`: the first 2560 rows of 128 lanes. -/
def blkA (X : S4x4096x1024.Idx → F .f32) (b : Fin 4) (l : Fin 8) : S1x2560x128.Idx → F .f32 :=
  fun y => X (ix3 b ⟨(y 1).val, by have := (y 1).isLt; change (y 1).val < 2560 at this; omega⟩
    ⟨128 * l.val + (y 2).val, by have := (y 2).isLt; change (y 2).val < 128 at this; omega⟩)

/-- What the first call leaves in its result array: per batch and lane block, the eight greatest of each lane. -/
def tcOut (X : S4x4096x1024.Idx → F .f32) : S4x8x1024.Idx → F .f32 :=
  fun y => tcVal (blkA X (y 0) ⟨(y 2).val / 128, by have := (y 2).isLt; change (y 2).val < 1024 at this; omega⟩)
    (ix3 0 (y 1) ⟨(y 2).val % 128, Nat.mod_lt _ (by decide)⟩)

/-- `tcOut` at an index of batch `b` and lane block `l` is that block's result there. -/
theorem tcOut_at (X : S4x4096x1024.Idx → F .f32) (b : Fin 4) (l : Fin 8) (e : S4x8x1024.Idx) (y : S1x8x128.Idx)
    (h0 : (e 0).val = b.val) (h1 : (e 1).val = (y 1).val) (h2 : (e 2).val = l.val * 128 + (y 2).val) :
    tcOut X e = tcVal (blkA X b l) y := by
  have hy0 : (y 0).val < 1 := (y 0).isLt
  have hy2 : (y 2).val < 128 := (y 2).isLt
  obtain rfl : e 0 = b := Fin.ext h0
  unfold tcOut
  have el : (⟨(e 2).val / 128, by have := (e 2).isLt; change (e 2).val < 1024 at this; omega⟩ : Fin 8) = l := Fin.ext (by
    show (e 2).val / 128 = l.val; omega)
  rw [el]
  refine congrArg (tcVal (blkA X (e 0) l)) (funext fun a => Fin.ext ?_)
  match a with
  | ⟨0, _⟩ => show 0 = (y 0).val; omega
  | ⟨1, _⟩ => exact h1
  | ⟨2, _⟩ => show (e 2).val % 128 = (y 2).val; omega

/-- The first call's proof data from the input `X` and the old result `V`, the recorded waits within `B`. -/
def dat1 (B : Set (SemLoc sig × HIx 1)) (c : Dev nD) (X : S4x4096x1024.Idx → F .f32) (V : S4x8x1024.Idx → F .f32) :
    Pipeline.Dat τ (Elt F) (HIx 1) ℕ UU ℕ cfg1 c where
  A := fun | ⟨0, _⟩ => X | ⟨1, _⟩ => V | ⟨_ + 2, h⟩ => absurd h (Nat.not_lt.2 (Nat.le_add_left _ _))
  after := fun
    | ⟨0, _⟩ => fun t => blkA X (grid1.coords t 0) (grid1.coords t 1)
    | ⟨1, _⟩ => fun t => tcVal (blkA X (grid1.coords t 0) (grid1.coords t 1))
    | ⟨_ + 2, h⟩ => absurd h (Nat.not_lt.2 (Nat.le_add_left _ _))
  Φ _ := Pipeline.scopedRest spec1 c
  q _ := fullShare
  owed _ := 0
  recorded _ := B

/-- The second call's proof data from the candidates `P` and `Q` and the old result `V`. -/
def dat2 (B : Set (SemLoc sig × HIx 1)) (c : Dev nD) (P : S4x8x1024.Idx → F .f32) (Q : S4x64x1024.Idx → F .f32) (V : S4x1024x8.Idx → F .f32) :
    Pipeline.Dat τ (Elt F) (HIx 1) ℕ UU ℕ cfg2 c where
  A := fun | ⟨0, _⟩ => P | ⟨1, _⟩ => Q | ⟨2, _⟩ => V | ⟨_ + 3, h⟩ => absurd h (Nat.not_lt.2 (Nat.le_add_left _ _))
  after := fun
    | ⟨0, _⟩ => fun _ => P
    | ⟨1, _⟩ => fun _ => Q
    | ⟨2, _⟩ => fun _ => mergeVal P Q
    | ⟨_ + 3, h⟩ => absurd h (Nat.not_lt.2 (Nat.le_add_left _ _))
  Φ _ := Pipeline.scopedRest spec2 c
  q _ := fullShare
  owed _ := 0
  recorded _ := B

/-- The first call's input block index at a point: the batch, row block 0, the lane block. -/
theorem index1_0 : ∀ t : Fin grid1.N, win1_0.index t = ![(grid1.coords t 0).val, 0, (grid1.coords t 1).val] := by decide +kernel
/-- Its result block index at a point: the same. -/
theorem index1_1 : ∀ t : Fin grid1.N, win1_1.index t = ![(grid1.coords t 0).val, 0, (grid1.coords t 1).val] := by decide +kernel
/-- No input block of it reaches past the array. -/
theorem clip1_0 : ∀ (t : Fin grid1.N) (a : Fin 3), win1_0.clip (grid1.coords t) a = none := by decide +kernel

section
variable (B : Set (SemLoc sig × HIx 1)) (c : Dev nD)

/-- At every point the first call finds the input's block staged. -/
theorem before1_0 (X : S4x4096x1024.Idx → F .f32) (V : S4x8x1024.Idx → F .f32) (t : Fin cfg1.N) (d) :
    (dat1 B c X V).before (0 : Fin 2) t d = blkA X (grid1.coords t 0) (grid1.coords t 1) := by
  unfold Pipeline.Dat.before
  rw [if_pos (fetch1_0 t)]
  funext j
  have hm : (cfg1.win 0).moved (cfg1.grid.coords t) j = true :=
    ((cfg1.win 0).moved_iff _ j).mpr fun a => by have := (j a).isLt; unfold Pipeline.Window.xsize; rw [clip1_0 t a]; exact this
  unfold Pipeline.Dat.fetched Pipeline.Window.fill
  rw [dif_pos hm]
  show X _ = X _
  refine congrArg X (funext fun a => Fin.ext ?_)
  match a with
  | ⟨0, _⟩ =>
    blk_simp [index1_0]
    exact Nat.add_zero _
  | ⟨1, _⟩ => blk_simp [index1_0]; rfl
  | ⟨2, _⟩ =>
    blk_simp [index1_0]
    show (grid1.coords t 1).val * 128 + (j 2).val = 128 * (grid1.coords t 1).val + (j 2).val
    omega

/-- The first call's body at every point: the staged block kept, the eight greatest of each of its lanes written. -/
theorem body1 (X : S4x4096x1024.Idx → F .f32) (V : S4x8x1024.Idx → F .f32) :
    Pipeline.BodyObligation (dat1 B c X V) (defs₀ (F := F)) 𝒱₀ none Set.univ := fun t => by
  rw [bigSep_W1, bigSep_W1]
  simp only
  rw [show (dat1 B c X V).Φ t.succ = (dat1 B c X V).Φ t.castSucc from rfl,
    show (dat1 B c X V).owesAt none t.succ = (dat1 B c X V).owesAt none t.castSucc from rfl]
  iintro ⟨HΦ, Ho, ⟨%d0, H0⟩, ⟨%d1, H1⟩⟩
  rw [before1_0 B c X V t d0]
  ihave Hw := (wp_tcBody c (grid1.coords t) (win1_0.stage (cfg1.slots t 0)) (hstage1_0 ((cfg1.slots t 0).cast nbuf1_0))
    (win1_1.stage (cfg1.slots t 1)) (hstage1_1 ((cfg1.slots t 1).cast nbuf1_1)) fullShare
    (blkA X (grid1.coords t 0) (grid1.coords t 1)) ((dat1 B c X V).before (1 : Fin 2) t d1)) $$ [H0 H1]
  · isplitl [H0]; · iexact H0
    iexact H1
  iapply wp_wand_r frame _ Set.univ
  isplitl [Hw]; · iexact Hw
  iintro %_ ⟨H0, H1⟩
  isplitl [HΦ]; · iexact HΦ
  isplitl [Ho]; · iexact Ho
  isplitl [H0]; · iexact H0
  iexact H1

/-- The first call's result array at the end. -/
theorem arr1_1 (X : S4x4096x1024.Idx → F .f32) (V : S4x8x1024.Idx → F .f32) :
    (dat1 B c X V).arrAt (1 : Fin 2) cfg1.N = tcOut X := by
  refine (dat1 B c X V).arrAt_eq_of_covers (1 : Fin 2) _ (by decide +kernel) fun t hf y => ?_
  blk_simp [index1_1]
  refine (tcOut_at X (grid1.coords t 0) (grid1.coords t 1) _ y ?_ ?_ ?_).symm
  · blk_simp [index1_1]
  · blk_simp [index1_1]
  · blk_simp [index1_1]

/-- The first call's input array at the end. -/
theorem arr1_0 (X : S4x4096x1024.Idx → F .f32) (V : S4x8x1024.Idx → F .f32) (n : ℕ) :
    (dat1 B c X V).arrAt (0 : Fin 2) n = X :=
  (dat1 B c X V).arrAt_in (0 : Fin 2) rfl n

variable (P : S4x8x1024.Idx → F .f32) (Q : S4x64x1024.Idx → F .f32) (V : S4x1024x8.Idx → F .f32)

/-- The second call finds its first candidate array staged whole, -/
theorem before2_0 (t : Fin cfg2.N) (d) : (dat2 B c P Q V).before (0 : Fin 3) t d = P := by
  unfold Pipeline.Dat.before
  rw [if_pos (fetch2_0 t)]
  obtain rfl := fin_N2 t
  refine ((dat2 B c P Q V).fetched_of_clip_none (0 : Fin 3) t2_0 (fun _ => rfl) d P).trans ?_
  funext j
  unfold Pipeline.Dat.fetched Pipeline.Window.fill
  rw [dif_pos (((cfg2.win 0).moved_iff _ j).mpr fun a => (j a).isLt)]
  show P _ = P _
  refine congrArg P (funext fun a => Fin.ext ?_)
  blk_simp
  rw [show win2_0.index t2_0 a = 0 from rfl, Nat.zero_mul]
  exact Nat.zero_add _

/-- and its second. -/
theorem before2_1 (t : Fin cfg2.N) (d) : (dat2 B c P Q V).before (1 : Fin 3) t d = Q := by
  unfold Pipeline.Dat.before
  rw [if_pos (fetch2_1 t)]
  obtain rfl := fin_N2 t
  refine ((dat2 B c P Q V).fetched_of_clip_none (1 : Fin 3) t2_0 (fun _ => rfl) d Q).trans ?_
  funext j
  unfold Pipeline.Dat.fetched Pipeline.Window.fill
  rw [dif_pos (((cfg2.win 1).moved_iff _ j).mpr fun a => (j a).isLt)]
  show Q _ = Q _
  refine congrArg Q (funext fun a => Fin.ext ?_)
  blk_simp
  rw [show win2_1.index t2_0 a = 0 from rfl, Nat.zero_mul]
  exact Nat.zero_add _

/-- The second call's body at its one point: the candidates kept, the merged result written. -/
theorem body2 : Pipeline.BodyObligation (dat2 B c P Q V) (defs₀ (F := F)) 𝒱₀ none Set.univ := fun t => by
  rw [bigSep_W2, bigSep_W2]
  simp only
  rw [show (dat2 B c P Q V).Φ t.succ = (dat2 B c P Q V).Φ t.castSucc from rfl,
    show (dat2 B c P Q V).owesAt none t.succ = (dat2 B c P Q V).owesAt none t.castSucc from rfl]
  iintro ⟨HΦ, Ho, ⟨%d0, H0⟩, ⟨%d1, H1⟩, ⟨%d2, H2⟩⟩
  rw [before2_0 B c P Q V t d0, before2_1 B c P Q V t d1]
  ihave Hw := (wp_mergeBody c (win2_0.stage (cfg2.slots t 0)) (win2_1.stage (cfg2.slots t 1)) (win2_2.stage (cfg2.slots t 2))
    (hstage2_0 0) (hstage2_1 0) (hstage2_2 0) fullShare fullShare P Q ((dat2 B c P Q V).before (2 : Fin 3) t d2)) $$ [H0 H1 H2]
  · isplitl [H0]; · iexact H0
    isplitl [H1]; · iexact H1
    iexact H2
  iapply wp_wand_r frame _ Set.univ
  isplitl [Hw]; · iexact Hw
  iintro %_ ⟨H0, H1, H2⟩
  isplitl [HΦ]; · iexact HΦ
  isplitl [Ho]; · iexact Ho
  isplitl [H0]; · iexact H0
  isplitl [H1]; · iexact H1
  iexact H2

/-- The second call's result array at the end. -/
theorem arr2_2 : (dat2 B c P Q V).arrAt (2 : Fin 3) cfg2.N = mergeVal P Q := by
  refine (dat2 B c P Q V).arrAt_eq_of_after_last (2 : Fin 3) t2_0 (by decide +kernel) _ fun j => ?_
  blk_simp
  rfl

end

end Cert.TopEight

end
-- ==== Proof.Regions.lean ====
/- The two TensorCore calls as regions of the program: from the arrays held before each and what the core owes, to the
   arrays at their new contents. -/
module

public import proofs.«01_k».proof.Proof.Windows
public import proofs.«01_k».proof.Proof.Deal

@[expose] public section

set_option maxRecDepth 16384

noncomputable section

namespace Cert.TopEight

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The first TensorCore call's result, the reshaped SparseCore result, the merged result, and the program's result. -/
abbrev v1Loc (d : Dev nD) : Loc nD τ sig := (T d : Thread nD τ).loc main_v1
abbrev v2Loc (d : Dev nD) : Loc nD τ sig := (T d : Thread nD τ).loc main_v2
abbrev v3Loc (d : Dev nD) : Loc nD τ sig := (T d : Thread nD τ).loc main_v3
abbrev v4Loc (d : Dev nD) : Loc nD τ sig := (T d : Thread nD τ).loc main_v4

/-- The waits the core may have recorded after its SparseCore call. -/
def early (d : Dev nD) : Set (SemLoc sig × HIx 1) := {p | (K (F := F)).lev (T d, p.1) p.2 ≤ 8}

/-- What the core owes between the calls: nothing, its recorded waits early ones. -/
def idle (d : Dev nD) : sProp 𝕄 :=
  iprop(∃ W : Waits sig (HIx 1), ⌜(↑W : Set (SemLoc sig × HIx 1)) ⊆ early (F := F) d⌝ ∗ owes (T d) (0 : CellTallies nD τ sig (HIx 1)) W)

variable (m : (ℓ : Loc nD τ sig) → Buf (Elt F) ℓ)

/-- The SparseCore call's result, one row of 64 candidates per batch and column. -/
def wide (X : S4x4096x1024.Idx → F .f32) : S4x64x1024.Idx → F .f32 :=
  shapeCast S4x64x1024 (scOut X) shapeCasts_S4x8x8x1024_S4x64x1024

abbrev adm : (p : Fin 2) → (pcfgs (F := F) p).Adm := fun p => (cfgs p).toPCfg_adm

/-- The two calls' proof data at launch contents `m`. -/
def pdats : (p : Fin 2) → (c : Dev nD) → Pipeline.Dat τ (Elt F) (HIx 1) ℕ UU ℕ (Pipeline.pin (pcfgs (F := F)) adm p) c
  | 0 => fun c => dat1 (early (F := F) c) c (m (xLoc c)) (m (v1Loc c))
  | 1 => fun c => dat2 (early (F := F) c) c (tcOut (m (xLoc c))) (wide (m (xLoc c))) (m (v3Loc c))

theorem early_none (d : Dev nD) (s : SemLoc sig) : (s, (none : HIx 1)) ∈ early (F := F) d := Nat.zero_le _

/-- The owed part of a call's entry, from the idle state, -/
theorem owesAt_of_idle (c : Dev nD) {cfg : Pipeline.Cfg sig Λ₀} (dat : Pipeline.Dat τ (Elt F) (HIx 1) ℕ UU ℕ cfg c) (t : Fin (cfg.N + 1))
    (ho : dat.owed t = 0) (hr : dat.recorded t = early (F := F) c) :
    (idle (F := F) c : sProp 𝕄) ⊢ dat.owesAt none t := by
  unfold Pipeline.Dat.owesAt Pipeline.owesWithin Pipeline.Dat.bound idle
  rw [ho, hr]
  iintro ⟨%W, %hW, HO⟩
  iexists W
  isplitr; · ipureintro; exact fun p hp => Or.inl (hW hp)
  iexact HO

/-- and back at its exit. -/
theorem idle_of_owesAt (c : Dev nD) {cfg : Pipeline.Cfg sig Λ₀} (dat : Pipeline.Dat τ (Elt F) (HIx 1) ℕ UU ℕ cfg c) (t : Fin (cfg.N + 1))
    (ho : dat.owed t = 0) (hr : dat.recorded t = early (F := F) c) :
    dat.owesAt none t ⊢ (idle (F := F) c : sProp 𝕄) := by
  unfold Pipeline.Dat.owesAt Pipeline.owesWithin Pipeline.Dat.bound idle
  rw [ho, hr]
  iintro ⟨%W, %hW, HO⟩
  iexists W
  isplitr
  · ipureintro
    intro p hp
    rcases hW hp with h | ⟨w, s, rfl⟩
    · exact h
    · exact early_none c _
  iexact HO

theorem none_held (p : Fin 2) (c : Dev nD) :
    (Pipeline.prefHeld ((pcfgs (F := F)) p).pre c (fun _ => fullShare) (adm (F := F) p).1 : sProp 𝕄) = BI.emp := by
  unfold Pipeline.prefHeld
  match p with
  | 0 => exact bigSep_univ_eq_bigSepL (I := Fin 0) [] (by decide) (by decide) _
  | 1 => exact bigSep_univ_eq_bigSepL (I := Fin 0) [] (by decide) (by decide) _

/-- The first call's arrays: the input and its result. -/
theorem arrays1 (B : Set (SemLoc sig × HIx 1)) (c : Dev nD) (X : S4x4096x1024.Idx → F .f32) (V : S4x8x1024.Idx → F .f32)
    (f : (w : Fin cfg1.W) → Buf (Elt F) ((cfg1.win w).arr.view.loc (c.tc : Thread nD τ))) :
    ((dat1 B c X V).arrays f : sProp 𝕄) = iprop((xLoc c ↦{fullShare} f (0 : Fin 2)) ∗ (v1Loc c ↦{fullShare} f (1 : Fin 2))) := by
  unfold Pipeline.Dat.arrays
  rw [bigSep_W1]
  have h0 : (cfg1.win (0 : Fin 2)).arr.view.set = Finset.univ := (arr_whole1 0).set_eq_univ
  have h1 : (cfg1.win (1 : Fin 2)).arr.view.set = Finset.univ := (arr_whole1 1).set_eq_univ
  rw [h0, h1]
  rfl

/-- The second call's: the two candidate arrays and its result. -/
theorem arrays2 (B : Set (SemLoc sig × HIx 1)) (c : Dev nD) (P : S4x8x1024.Idx → F .f32) (Q : S4x64x1024.Idx → F .f32) (V : S4x1024x8.Idx → F .f32)
    (f : (w : Fin cfg2.W) → Buf (Elt F) ((cfg2.win w).arr.view.loc (c.tc : Thread nD τ))) :
    ((dat2 B c P Q V).arrays f : sProp 𝕄)
      = iprop((v1Loc c ↦{fullShare} f (0 : Fin 3)) ∗ (v2Loc c ↦{fullShare} f (1 : Fin 3)) ∗ (v3Loc c ↦{fullShare} f (2 : Fin 3))) := by
  unfold Pipeline.Dat.arrays
  rw [bigSep_W2]
  have h0 : (cfg2.win (0 : Fin 3)).arr.view.set = Finset.univ := (arr_whole2 0).set_eq_univ
  have h1 : (cfg2.win (1 : Fin 3)).arr.view.set = Finset.univ := (arr_whole2 1).set_eq_univ
  have h2 : (cfg2.win (2 : Fin 3)).arr.view.set = Finset.univ := (arr_whole2 2).set_eq_univ
  rw [h0, h1, h2]
  rfl

/-- The first call: the input kept, the eight greatest of the first 2560 rows of every column written. -/
def seg1 :
    Pipeline.RegionSeg (pcfgs (F := F)) (adm (F := F)) (pdats m) (none : HIx 1) (defs₀ (F := F)) 𝒱₀ (K (F := F)).L (K (F := F)).lev 0 where
  win := winFacts1.to₀
  block_pos := block_pos1
  stage_whole := stage_whole1
  K := PEmpty
  osem k := k.elim
  ho := Pipeline.OwnSemFacts.none _
  hbody c := (body1 (early (F := F) c) c (m (xLoc c)) (m (v1Loc c))).loose
  hwaits := Pipeline.hwaits_of_owed_zero _ _ _ _ (K (F := F)).L (K (F := F)).lev 0 fun _ _ => rfl
  pre c := iprop((xLoc c ↦{fullShare} m (xLoc c)) ∗ (v1Loc c ↦{fullShare} m (v1Loc c)) ∗ idle (F := F) c)
  post c := iprop((xLoc c ↦{fullShare} m (xLoc c)) ∗ (v1Loc c ↦{fullShare} tcOut (m (xLoc c))) ∗ idle (F := F) c)
  X _ := BI.emp
  Y _ := BI.emp
  Z _ := BI.emp
  hentry c := by
    rw [none_held, Pipeline.ownSems0_none]
    rw [show pdats m 0 c = dat1 (early (F := F) c) c (m (xLoc c)) (m (v1Loc c)) from rfl]
    erw [arrays1]
    iintro ⟨⟨Hx, Hv, HO⟩, -, -⟩
    imodintro
    isplitl [Hx Hv]
    · isplitl [Hx]; · iexact Hx
      iexact Hv
    isplitr; · iempintro
    isplitl [HO]; · iapply (owesAt_of_idle c (dat1 (early (F := F) c) c (m (xLoc c)) (m (v1Loc c))) 0 rfl rfl); iexact HO
    isplitr <;> iempintro
  hin c := by
    rw [show (pdats m 0 c).Φ 0 = Pipeline.scopedRest spec1 c from rfl]
    iintro ⟨-, -, H⟩; iexact H
  hout c := by
    rw [show (pdats m 0 c).Φ (Fin.last _) = Pipeline.scopedRest spec1 c from rfl, Pipeline.ownSems0_none]
    iintro H
    isplitr; · iempintro
    isplitr; · iempintro
    iexact H
  hexit c := by
    rw [show pdats m 0 c = dat1 (early (F := F) c) c (m (xLoc c)) (m (v1Loc c)) from rfl]
    erw [arrays1]
    iintro ⟨⟨Hx, Hv⟩, HO, -, -⟩
    imodintro
    isplitl [Hx]
    · iapply (Entails.of_eq (congrArg (fun f => (xLoc c ↦{fullShare} f : sProp 𝕄)) (arr1_0 (early (F := F) c) c (m (xLoc c)) (m (v1Loc c)) _)))
      iexact Hx
    isplitl [Hv]
    · iapply (Entails.of_eq (congrArg (fun f => (v1Loc c ↦{fullShare} f : sProp 𝕄)) (arr1_1 (early (F := F) c) c (m (xLoc c)) (m (v1Loc c)))))
      iexact Hv
    iapply (idle_of_owesAt c (dat1 (early (F := F) c) c (m (xLoc c)) (m (v1Loc c))) _ rfl rfl); iexact HO

/-- The second call: the merged result written from the two candidate arrays. -/
def seg2 :
    Pipeline.RegionSeg (pcfgs (F := F)) (adm (F := F)) (pdats m) (none : HIx 1) (defs₀ (F := F)) 𝒱₀ (K (F := F)).L (K (F := F)).lev 1 where
  win := winFacts2.to₀
  block_pos := block_pos2
  stage_whole := stage_whole2
  K := PEmpty
  osem k := k.elim
  ho := Pipeline.OwnSemFacts.none _
  hbody c := (body2 (early (F := F) c) c (tcOut (m (xLoc c))) (wide (m (xLoc c))) (m (v3Loc c))).loose
  hwaits := Pipeline.hwaits_of_owed_zero _ _ _ _ (K (F := F)).L (K (F := F)).lev 1 fun _ _ => rfl
  pre c := iprop((v1Loc c ↦{fullShare} tcOut (m (xLoc c))) ∗ (v2Loc c ↦{fullShare} wide (m (xLoc c))) ∗ (v3Loc c ↦{fullShare} m (v3Loc c)) ∗ idle (F := F) c)
  post c := iprop((v3Loc c ↦{fullShare} mergeVal (tcOut (m (xLoc c))) (wide (m (xLoc c)))) ∗ idle (F := F) c)
  X _ := BI.emp
  Y _ := BI.emp
  Z _ := BI.emp
  hentry c := by
    rw [none_held, Pipeline.ownSems0_none]
    rw [show pdats m 1 c = dat2 (early (F := F) c) c (tcOut (m (xLoc c))) (wide (m (xLoc c))) (m (v3Loc c)) from rfl]
    erw [arrays2]
    iintro ⟨⟨H1, H2, H3, HO⟩, -, -⟩
    imodintro
    isplitl [H1 H2 H3]
    · isplitl [H1]; · iexact H1
      isplitl [H2]; · iexact H2
      iexact H3
    isplitr; · iempintro
    isplitl [HO]; · iapply (owesAt_of_idle c (dat2 (early (F := F) c) c (tcOut (m (xLoc c))) (wide (m (xLoc c))) (m (v3Loc c))) 0 rfl rfl); iexact HO
    isplitr <;> iempintro
  hin c := by
    rw [show (pdats m 1 c).Φ 0 = Pipeline.scopedRest spec2 c from rfl]
    iintro ⟨-, -, H⟩; iexact H
  hout c := by
    rw [show (pdats m 1 c).Φ (Fin.last _) = Pipeline.scopedRest spec2 c from rfl, Pipeline.ownSems0_none]
    iintro H
    isplitr; · iempintro
    isplitr; · iempintro
    iexact H
  hexit c := by
    rw [show pdats m 1 c = dat2 (early (F := F) c) c (tcOut (m (xLoc c))) (wide (m (xLoc c))) (m (v3Loc c)) from rfl]
    erw [arrays2]
    iintro ⟨⟨-, -, H3⟩, HO, -, -⟩
    imodintro
    isplitl [H3]
    · iapply (Entails.of_eq (congrArg (fun f => (v3Loc c ↦{fullShare} f : sProp 𝕄))
        (arr2_2 (early (F := F) c) c (tcOut (m (xLoc c))) (wide (m (xLoc c))) (m (v3Loc c)))))
      iexact H3
    iapply (idle_of_owesAt c (dat2 (early (F := F) c) c (tcOut (m (xLoc c))) (wide (m (xLoc c))) (m (v3Loc c))) _ rfl rfl); iexact HO

end Cert.TopEight

end
-- ==== Proof.Launch.lean ====
/- The whole program's run: the SparseCore call, the first TensorCore call, a reshape, the second TensorCore call, a
   reshape; from any launch contents, with any float values, to the result in closed form and the input unchanged. -/
module

public import proofs.«01_k».proof.Proof.Regions

@[expose] public section

set_option maxRecDepth 16384

noncomputable section

namespace Cert.TopEight

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The SparseCore call's set-up: its launch semaphores distinct and unscoped, no shared buffer of a task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The program's result: the merged top eight, batch by batch, column by column. -/
def topOut (X : S4x4096x1024.Idx → F .f32) : S4x8192.Idx → F .f32 :=
  shapeCast S4x8192 (mergeVal (tcOut X) (wide X)) shapeCasts_S4x1024x8_S4x8192

/-- The two pipelines, no table prefetched. -/
abbrev pins : (p : Fin 2) → Pipeline.Cfg sig Λ₀ := Pipeline.pin (pcfgs (F := F)) (adm (F := F))

theorem pins_inj : Function.Injective (Pipeline.cellOf (nD := nD) (τ := τ) (pins (F := F))) := cellOf_inj

/-- The ghost state at launch: the handshakes' rounds, the pipelines' rounds, no counter. -/
def u₀ : UU :=
  (initOf (K (F := F)).hsCells (K (F := F)).hsToks,
    (initOf (Pipeline.cells (pins (F := F)) pins_inj) (Pipeline.launchToks (pins (F := F)) pins_inj), 1))

/-- What of it goes to the TensorCore for pipeline `p`. -/
abbrev ghost (p : Fin 2) (d : Dev nD) : sProp 𝕄 :=
  iprop(Pipeline.cellsGhost (pins (F := F)) EP p d ∗ Pipeline.toksInit (pins (F := F)) EP p d)

/-- What of it goes to the TensorCore: both pipelines' parts. -/
abbrev G (d : Dev nD) : sProp 𝕄 := iprop(ghost (F := F) 0 d ∗ ghost (F := F) 1 d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (pins (F := F)) pins_inj) (Pipeline.launchToks (pins (F := F)) pins_inj), 1) : UP × Counters)) $$ Hu
  icases H with ⟨HH, HR⟩
  ihave H2 := (own_pair_emb (embR : Emb (UP × Counters) 𝕄)
    (initOf (Pipeline.cells (pins (F := F)) pins_inj) (Pipeline.launchToks (pins (F := F)) pins_inj)) (1 : Counters)) $$ HR
  icases H2 with ⟨HP, -⟩
  imod (Pipeline.fund_ghost (pins (F := F)) (EP (F := F)) pins_inj) $$ HP with ⟨Hc, Ht⟩
  imodintro
  isplitl [HH]; · iexact HH
  isplitl [Hc Ht]
  · ihave Hc := (Entails.of_eq (bigSep_univ_of_subsingleton (0 : Dev nD))) $$ Hc
    ihave Ht := (Entails.of_eq (bigSep_univ_of_subsingleton (0 : Dev nD))) $$ Ht
    ihave Hc := (Entails.of_eq (bigSep_W1 _)) $$ Hc
    ihave Ht := (Entails.of_eq (bigSep_W1 _)) $$ Ht
    icases Hc with ⟨Hc0, Hc1⟩
    icases Ht with ⟨Ht0, Ht1⟩
    iapply (Entails.of_eq (bigSep_univ_of_subsingleton (0 : Dev nD)).symm)
    isplitl [Hc0 Ht0]
    · isplitl [Hc0]; · iexact Hc0
      iexact Ht0
    · isplitl [Hc1]; · iexact Hc1
      iexact Ht1
  rw [show (bigSep Finset.univ fun thr : Thread nD τ => bigSep Finset.univ fun q : Fin 1 => (P (F := F) m).x q thr) = (iprop(emp) : sProp 𝕄) from
    (bigSep_congr fun _ _ => bigSep_univ_of_subsingleton (0 : Fin 1)).trans (bigSep_emp_const Finset.univ)]
  iempintro

/-- The TensorCore's arrays at launch. -/
theorem unscoped_eq (d : Dev nD) (W : (b : Ref sig .tc) → Buf (Elt F) ((d.tc : Thread nD τ).loc b)) :
    (unscopedBufs d W : sProp 𝕄) = iprop((xLoc d ↦{fullShare} W main_arg0) ∗ (oLoc d ↦{fullShare} W main_v0) ∗ (v1Loc d ↦{fullShare} W main_v1)
      ∗ (v2Loc d ↦{fullShare} W main_v2) ∗ (v3Loc d ↦{fullShare} W main_v3) ∗ (v4Loc d ↦{fullShare} W main_v4)) := by
  unfold unscopedBufs
  rw [show (Finset.univ.filter fun b : Ref sig .tc => ¬ b.isScoped) = {main_arg0, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), bigSep_singleton]

section Steps

variable [∀ e, Nonempty (Elt F e)] (d : Dev nD)

/-- A TensorCore call of @main, from its region's entry state to its exit state. -/
theorem wp_region (p : Fin 2)
    (R : Pipeline.RegionSeg (pcfgs (F := F)) (adm (F := F)) (pdats m) (none : HIx 1) (defs₀ (F := F)) 𝒱₀ (K (F := F)).L (K (F := F)).lev p)
    (Φ : PUnit → sProp 𝕄) :
    iprop((iprop(boundary (T d) ∗ R.post d) -∗ Φ ⟨⟩) ∗ boundary (T d) ∗ R.pre d ∗ levAts (K (F := F)).L (K (F := F)).lev ∗ ghost (F := F) p d)
      ⊢ wp frame (wpE ((K (F := F)).defs (D (F := F))) 𝒱 (T d) none) Set.univ
          (Prog.lift (.customCall (SparseCore.inner (Pipeline.entry p)) ())) Φ := by
  refine BIBase.Entails.trans ?_ ((K (F := F)).wp_liftProg (D (F := F)) 𝒱 (T d) Set.univ none (.op (.customCall (Pipeline.entry p) ()) fun r => .ret r) Φ)
  refine BIBase.Entails.trans ?_ (Pipeline.RegionSeg.wp (pcfgs (F := F)) (adm (F := F)) (pdats m) (none : HIx 1) pins_inj EP (defs₀ (F := F)) 𝒱₀
    (K (F := F)).L (K (F := F)).lev R d none (fun u hu => nomatch hu) (fun r => .ret r) Φ)
  iintro ⟨Hk, Hb, Hpre, Hl, Hg⟩
  isplitl [Hk]
  · iintro H
    rw [wp_ret]
    imodintro
    iapply Hk; iexact H
  isplitl [Hb]; · iexact Hb
  isplitl [Hpre]; · iexact Hpre
  isplitl [Hl]; · iexact Hl
  iexact Hg

/-- After its one SparseCore call the core owes nothing, and its waits so far are early ones; what it owes may be taken
    out and given back. -/
theorem st_idle :
    ((K (F := F)).tcSt EH d 1 : sProp 𝕄) ⊢ iprop(idle (F := F) d ∗ (idle (F := F) d -∗ (K (F := F)).tcSt EH d 1)) := by
  have hO : (K (F := F)).Otc d 1 = 0 := by
    unfold SparseCore.Cfg.Otc
    exact Finset.sum_eq_zero fun q _ => if_neg (by have := q.isLt; omega)
  unfold SparseCore.Cfg.tcSt idle
  rw [hO]
  iintro ⟨⟨%W, %hW, HO⟩, Hrest⟩
  isplitl [HO]
  · iexists W
    isplitr; · ipureintro; exact fun p hp => hW p hp
    iexact HO
  iintro ⟨%W', %hW', HO⟩
  isplitl [HO]
  · iexists W'
    isplitr; · ipureintro; exact fun p hp => hW' hp
    iexact HO
  iexact Hrest

/-- A reshape of @main between two distinct arrays: the source kept, the target at the source's elements in row-major order. -/
theorem wp_reshape (V₀ : Valuation τ sig (Elt F)) (x y : Ref sig .tc) (he : x.ty.elt = y.ty.elt) (hn : x.ty.shape.ShapeCasts y.ty.shape) (hx) (hy) (hne : x ≠ y)
    (f : x.ty.Contents (Elt F)) (g : y.ty.Contents (Elt F)) (Φ : PUnit → sProp 𝕄) :
    iprop((boundary (T d) ∗ ((T d : Thread nD τ).loc x ↦{fullShare} f) ∗ ((T d : Thread nD τ).loc y ↦{fullShare} g))
        ∗ (iprop(boundary (T d) ∗ ((T d : Thread nD τ).loc x ↦{fullShare} f)
          ∗ ((T d : Thread nD τ).loc y ↦{fullShare} (fun i => he ▸ shapeCast y.ty.shape f hn i : y.ty.Contents (Elt F)))) -∗ Φ ⟨⟩))
      ⊢ wp frame (wpE ((K (F := F)).defs (D (F := F))) 𝒱 (T d) none) Set.univ
          (hlo rfl (StableHlo.reshape x y he hn hx hy) (fun _ => .ret ⟨⟩)) Φ := by
  have hxy : (Proc.devRef .tc x : DevRef τ sig) ≠ Proc.devRef .tc y := StableHlo.devRef_ne_of_ne hne
  have split (W : Valuation τ sig (Elt F)) :
      (StableHlo.held (T d) {Proc.devRef .tc x, Proc.devRef .tc y} W : sProp 𝕄)
        = iprop(((T d : Thread nD τ).loc x ↦{fullShare} W (Proc.devRef .tc x)) ∗ ((T d : Thread nD τ).loc y ↦{fullShare} W (Proc.devRef .tc y))) := by
    unfold StableHlo.held
    rw [SparseCore.bigSep_insert' (fun h => hxy (Finset.mem_singleton.mp h)), bigSep_singleton]
  have vx : (Function.update (Function.update V₀ (Proc.devRef .tc x) f) (Proc.devRef .tc y) g : Valuation τ sig (Elt F)) (Proc.devRef .tc x) = f :=
    (Function.update_of_ne hxy _ _).trans (Function.update_self _ _ _)
  have vy : (Function.update (Function.update V₀ (Proc.devRef .tc x) f) (Proc.devRef .tc y) g : Valuation τ sig (Elt F)) (Proc.devRef .tc y) = g :=
    Function.update_self _ _ _
  iintro ⟨⟨Hb, Hx, Hy⟩, Hk⟩
  iapply (StableHlo.wp_hlo_within 𝒱 (T d) none Set.univ (op := StableHlo.reshape x y he hn hx hy)
    (S := {Proc.devRef .tc x, Proc.devRef .tc y}) (Finset.Subset.refl _)
    (V := Function.update (Function.update V₀ (Proc.devRef .tc x) f) (Proc.devRef .tc y) g)) $$ [Hb Hx Hy]
  · isplitl [Hb]; · iexact Hb
    rw [split, vx, vy]
    isplitl [Hx]; · iexact Hx
    iexact Hy
  rw [split, StableHlo.reshape_result, StableHlo.reshape_result_ne x y (r := x) he hn hx hy _ hne, vx]
  iintro ⟨Hb, Hx, Hy⟩
  rw [wp_ret]
  imodintro
  iapply Hk
  isplitl [Hb]; · iexact Hb
  isplitl [Hx]; · iexact Hx
  iexact Hy

/-- What @main leaves the claim: the input at its launch contents, the result at its value. -/
abbrev FIN : sProp 𝕄 := iprop((xLoc d ↦{fullShare} m (xLoc d)) ∗ (v4Loc d ↦{fullShare} topOut (m (xLoc d))))

/-- @main on the TensorCore. -/
theorem hmain (κ : GSem nD τ sig → ℕ) :
    iprop((K (F := F)).ctx EH (P m) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscoped_eq]
  simp only [main, wp_bind, wp_pure]
  iintro ⟨#Hctx, Hst, ⟨Hb, ⟨Hx, H0, H1, H2, H3, H4⟩, Hts, -⟩, ⟨Hg0, Hg1⟩⟩
  ihave #Hlev := (SparseCore.Cfg.ctx_levAts (P := P m) κ) $$ Hctx
  -- the SparseCore call
  iapply ((K (F := F)).wp_run (D (F := F)) 𝒱 (EH := EH) (P := P m) κ d 0) $$ [Hst Hx H0 H1 H2 H3 H4 Hb Hts Hg0 Hg1]
  isplitr; · iexact Hctx
  isplitl [Hst]; · iexact Hst
  isplitl [Hx H0]
  · rw [st_eq]
    isplitl [Hx]; · iexact Hx
    iexact H0
  iintro ⟨Hst, Hdn⟩
  ihave Hdn := (Entails.of_eq (dn_eq m d)) $$ Hdn
  icases Hdn with ⟨Hx, H0⟩
  ihave Hst := (show _ ⊢ _ from st_idle (F := F) d : (K (F := F)).tcSt EH d ((0 : Fin 1).val + 1) ⊢ iprop(idle (F := F) d ∗ (idle (F := F) d -∗ (K (F := F)).tcSt EH d 1))) $$ Hst
  icases Hst with ⟨Hi, Hst⟩
  -- the first TensorCore call
  iapply (wp_region m d 0 (seg1 m) _) $$ [Hst Hi Hx H0 H1 H2 H3 H4 Hb Hts Hg0 Hg1]
  isplitr [Hb Hi Hx H1 Hg0]
  swap
  · isplitl [Hb]; · iexact Hb
    isplitl [Hi Hx H1]
    · rw [show (seg1 m).pre d = iprop((xLoc d ↦{fullShare} m (xLoc d)) ∗ (v1Loc d ↦{fullShare} m (v1Loc d)) ∗ idle (F := F) d) from rfl]
      isplitl [Hx]; · iexact Hx
      isplitl [H1]; · iexact H1
      iexact Hi
    isplitr; · iexact Hlev
    iexact Hg0
  rw [show (seg1 m).post d = iprop((xLoc d ↦{fullShare} m (xLoc d)) ∗ (v1Loc d ↦{fullShare} tcOut (m (xLoc d))) ∗ idle (F := F) d) from rfl]
  iintro ⟨Hb, Hx, H1, Hi⟩
  -- the reshape of the SparseCore call's result
  iapply (wp_reshape d (fun b => m (d, b)) main_v0 main_v2 rfl shapeCasts_S4x8x8x1024_S4x64x1024 _ _ (by decide) (scOut (m (xLoc d))) (m (v2Loc d)) _)
    $$ [Hst Hi Hx H0 H1 H2 H3 H4 Hb Hts Hg1]
  isplitl [Hb H0 H2]
  · isplitl [Hb]; · iexact Hb
    isplitl [H0]; · iexact H0
    iexact H2
  iintro ⟨Hb, H0, H2⟩
  -- the second TensorCore call
  iapply (wp_region m d 1 (seg2 m) _) $$ [Hst Hi Hx H0 H1 H2 H3 H4 Hb Hts Hg1]
  isplitr [Hb Hi H1 H2 H3 Hg1]
  swap
  · isplitl [Hb]; · iexact Hb
    isplitl [Hi H1 H2 H3]
    · rw [show (seg2 m).pre d = iprop((v1Loc d ↦{fullShare} tcOut (m (xLoc d))) ∗ (v2Loc d ↦{fullShare} wide (m (xLoc d))) ∗ (v3Loc d ↦{fullShare} m (v3Loc d)) ∗ idle (F := F) d) from rfl]
      isplitl [H1]; · iexact H1
      isplitl [H2]; · iexact H2
      isplitl [H3]; · iexact H3
      iexact Hi
    isplitr; · iexact Hlev
    iexact Hg1
  rw [show (seg2 m).post d = iprop((v3Loc d ↦{fullShare} mergeVal (tcOut (m (xLoc d))) (wide (m (xLoc d)))) ∗ idle (F := F) d) from rfl]
  iintro ⟨Hb, H3, Hi⟩
  -- the reshape of the merged result
  iapply (wp_reshape d (fun b => m (d, b)) main_v3 main_v4 rfl shapeCasts_S4x1024x8_S4x8192 _ _ (by decide)
    (mergeVal (tcOut (m (xLoc d))) (wide (m (xLoc d)))) (m (v4Loc d)) _) $$ [Hst Hi Hx H0 H3 H4 Hb Hts]
  isplitl [Hb H3 H4]
  · isplitl [Hb]; · iexact Hb
    isplitl [H3]; · iexact H3
    iexact H4
  iintro ⟨Hb, H3, H4⟩
  imodintro
  isplitl [Hst Hi]
  · iapply Hst; iexact Hi
  isplitl [Hx H4]
  · isplitl [Hx]; · iexact Hx
    iexact H4
  isplitl [Hb] <;> iassumption

/-- What a final state then has on the device. -/
def fq (s' : Phys nD τ sig (Elt F)) : Prop := s'.mem.mem (xLoc d) = m (xLoc d) ∧ s'.mem.mem (v4Loc d) = topOut (m (xLoc d))

theorem hfin (s' : Phys nD τ sig (Elt F)) : iprop(FIN m d ∗ SI s') ⊢ (⌜fq m d s'⌝ : sProp 𝕄) := by
  iintro ⟨⟨Hx, H4⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := v4Loc d) (I := Finset.univ) (q := fullShare) (f := topOut (m (xLoc d)))) $$ [HSI H4]
  · isplitl [HSI] <;> iassumption
  icases H with %h2
  ipureintro
  exact ⟨funext fun i => h1 i (Finset.mem_univ i), funext fun i => h2 i (Finset.mem_univ i)⟩

end Steps

/-- Every weakly fair execution of the program terminates without fault, with the input unchanged, the result at `topOut` of
    it, and every semaphore counter back at zero. -/
theorem run_main [∀ e, Nonempty (Elt F e)] :
    θ_run (Cert.KernelIdeal.defs (F := F)) (Cert.KernelIdeal.threads (F := F)) ⟨m, fun _ => 0, ρ⟩
      fun r => (∀ d : Dev nD, r.2.mem (xLoc d) = m (xLoc d) ∧ r.2.mem (v4Loc d) = topOut (m (xLoc d))) ∧ r.2.sem = fun _ => 0 :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (G (F := F)) (FIN m) (u₀ (F := F)) (sep_elim_left.trans (hu₀ m)) (fun κ d => hmain m ρ d κ) (fq m) (hfin m) _ (fun _ h hz => ⟨h, hz⟩)

end Cert.TopEight

end
-- ==== Proof.Frames.lean ====
/-
  The frames: the kernel's program at its own floats and at the ideal ones, and the reference. The kernel's run is
  proved once, over any floats, of the program `KernelIdeal`; `Kernel` is the same text.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Claim

@[expose] public section

set_option maxRecDepth 16384

noncomputable section

namespace Cert.TopEight

open Idealize.ShloMosaic Idealize.SL.Sem

/-- The program at the ideal instance terminates without fault, its input unchanged and every semaphore counter at zero. -/
theorem frame_ideal : Cert.quiescent_KernelIdeal := fun m ρ _ =>
  (θ_run Cert.KernelIdeal.defs _ _).mono (fun _ h => ⟨fun c => (h.1 c).1, h.2⟩) (run_main (F := Ideal) m ρ)

section Same
variable {F : FTy → Type} [FloatOps F]

/-- The two programs' kernel functions are the same, label by label. -/
theorem defs₀_same : Cert.Kernel.defs₀ (F := F) = Cert.KernelIdeal.defs₀ (F := F) := by
  unfold Cert.Kernel.defs₀ Cert.KernelIdeal.defs₀
  funext p ℓ a
  match p, ℓ, a with
  | .scVector c s, 0, _ => rfl
  | .tc, 1, (t, s) => rfl
  | .tc, 2, (t, s) => rfl
  | .tc, 0, _ => rfl
  | .scVector c s, 1, _ => rfl
  | .scVector c s, 2, _ => rfl
  | .scScalar _, 0, _ => rfl
  | .scScalar _, 1, _ => rfl
  | .scScalar _, 2, _ => rfl

/-- So are their body tables. -/
theorem defs_same : Cert.Kernel.defs (F := F) = Cert.KernelIdeal.defs (F := F) := by
  unfold Cert.Kernel.defs Cert.KernelIdeal.defs
  rw [defs₀_same]
  rfl

end Same

/-- The program at its own floats terminates without fault, its input unchanged and every semaphore counter at zero. -/
theorem frame_kernel : Cert.quiescent_Kernel := fun m ρ _ => by
  rw [defs_same]
  exact (θ_run Cert.KernelIdeal.defs _ _).mono (fun _ h => ⟨fun c => (h.1 c).1, h.2⟩) (run_main (F := Bits) m ρ)

/-- The reference terminates without fault, its input unchanged; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.TopEight

end
-- ==== Proof.Count.lean ====
/- Counting: how many entries of a family reach a threshold.  The kernel's networks, its selection rounds and the sort of
   the reference are all read as such counts: an entry `m k` reaches `t` exactly when more than `k` of the entries do. -/
module

public import proofs.«01_k».proof.Proof.Net
public import Idealize.ShloMosaic.Lib.SortFacts
public import Mathlib.Algebra.BigOperators.Fin
public import Mathlib.Algebra.Order.BigOperators.Group.Finset
public import Mathlib.Data.EReal.Basic

@[expose] public section

set_option maxRecDepth 16384

noncomputable section

namespace Cert.TopEight

/-! ## Counts -/

/-- How many of the family `x` are at least `t`. -/
def above {ι : Type} [Fintype ι] (x : ι → EReal) (t : EReal) : ℕ := ∑ i, if t ≤ x i then 1 else 0

/-- `m` lists the greatest entries of a family whose counts are `c`, downwards: entry `k` reaches a threshold above −∞
    exactly when more than `k` entries do. -/
def Lists {n : ℕ} (m : Fin n → EReal) (c : EReal → ℕ) : Prop := ∀ t, ⊥ < t → ∀ k : Fin n, t ≤ m k ↔ k.val < c t

/-- Such a list is determined by which of the counts exceed its places. -/
theorem Lists.unique {n : ℕ} {m m' : Fin n → EReal} {c c' : EReal → ℕ} (h : Lists m c) (h' : Lists m' c')
    (hc : ∀ t, ⊥ < t → ∀ k < n, k < c t ↔ k < c' t) (k : Fin n) : m k = m' k := by
  have key (t : EReal) (ht : ⊥ < t) : t ≤ m k ↔ t ≤ m' k := by rw [h t ht, h' t ht, hc t ht _ k.isLt]
  refine le_antisymm ?_ ?_
  · rcases eq_or_lt_of_le (bot_le : ⊥ ≤ m k) with e | e
    · rw [← e]; exact bot_le
    · exact (key _ e).mp le_rfl
  · rcases eq_or_lt_of_le (bot_le : ⊥ ≤ m' k) with e | e
    · rw [← e]; exact bot_le
    · exact (key _ e).mpr le_rfl

/-- Counts of a family listed in another order are the same. -/
theorem above_equiv {ι κ : Type} [Fintype ι] [Fintype κ] (e : ι ≃ κ) (x : κ → EReal) (t : EReal) :
    above (fun i => x (e i)) t = above x t := Fintype.sum_equiv e _ _ fun _ => rfl

/-- The count over a family of pairs is the sum of the counts over the second coordinate's. -/
theorem above_prod {ι κ : Type} [Fintype ι] [Fintype κ] (x : ι → κ → EReal) (t : EReal) :
    above (fun p : ι × κ => x p.1 p.2) t = ∑ i, above (x i) t := Fintype.sum_prod_type _

/-- The count over `m` entries and then `n` more. -/
theorem above_add (m n : ℕ) (x : ℕ → EReal) (t : EReal) :
    above (fun i : Fin (m + n) => x i.val) t = above (fun i : Fin m => x i.val) t + above (fun i : Fin n => x (m + i.val)) t :=
  Fin.sum_univ_add _

/-- The count over `m` blocks of `n` entries. -/
theorem above_mul (m n : ℕ) (x : ℕ → EReal) (t : EReal) :
    above (fun i : Fin (m * n) => x i.val) t = ∑ a : Fin m, above (fun b : Fin n => x (b.val + n * a.val)) t :=
  (above_equiv finProdFinEquiv (fun i : Fin (m * n) => x i.val) t).symm.trans
    (above_prod (fun (a : Fin m) (b : Fin n) => x (b.val + n * a.val)) t)

/-- Of a list of the `n` greatest, as many reach a threshold as of the family, up to `n`. -/
theorem Lists.above_eq {n : ℕ} {m : Fin n → EReal} {c : EReal → ℕ} (h : Lists m c) (t : EReal) (ht : ⊥ < t) :
    above m t = min n (c t) := by
  have e : above m t = ∑ k : Fin n, if k.val < c t then 1 else 0 :=
    Finset.sum_congr rfl fun k _ => if_congr (h t ht k) rfl rfl
  rw [e, Fin.sum_univ_eq_sum_range (fun k => if k < c t then 1 else 0) n, ← Finset.sum_filter, Finset.sum_const, smul_eq_mul, mul_one]
  have : (Finset.range n).filter (· < c t) = Finset.range (min n (c t)) := by
    ext k; simp only [Finset.mem_filter, Finset.mem_range, lt_min_iff]
  rw [this, Finset.card_range]

/-- A sum of counts each cut at `n` exceeds a `k` below `n` exactly when the sum of the counts does. -/
theorem lt_sum_min {σ : Type} [Fintype σ] (n k : ℕ) (hk : k < n) (c : σ → ℕ) : (k < ∑ s, min n (c s)) ↔ k < ∑ s, c s := by
  constructor
  · exact fun h => lt_of_lt_of_le h (Finset.sum_le_sum fun s _ => min_le_right _ _)
  · intro h
    by_cases hs : ∃ s, n ≤ c s
    · obtain ⟨s, hs⟩ := hs
      refine lt_of_lt_of_le hk ((le_of_eq (min_eq_left hs).symm).trans ?_)
      exact Finset.single_le_sum (f := fun s => min n (c s)) (fun _ _ => Nat.zero_le _) (Finset.mem_univ s)
    · rw [Finset.sum_congr rfl fun s _ => min_eq_right (le_of_lt (not_le.mp fun hn => hs ⟨s, hn⟩))]
      exact h

/-! ## The networks on truth values -/

/-- The truth values that are true up to place `c`. -/
def upTo (c : ℕ) : Fin 8 → Bool := fun k => decide (k.val < c)

theorem upTo_min (c : ℕ) : upTo c = upTo (min 8 c) := funext fun k => by
  have := k.isLt
  exact decide_eq_decide.mpr (by omega)

/-- How many of eight truth values are true. -/
def trues (v : Fin 8 → Bool) : ℕ :=
  (v 0).toNat + (v 1).toNat + (v 2).toNat + (v 3).toNat + (v 4).toNat + (v 5).toNat + (v 6).toNat + (v 7).toNat

theorem sortNet_lit : ∀ a b c d e f g h : Bool, ∀ k : Fin 8,
    runNet or and sortNet ![a, b, c, d, e, f, g, h] k = upTo (trues ![a, b, c, d, e, f, g, h]) k := by decide +kernel

/-- The sorting network puts the true values first. -/
theorem sortNet_bool (v : Fin 8 → Bool) : runNet or and sortNet v = upTo (trues v) := by
  have e : v = ![v 0, v 1, v 2, v 3, v 4, v 5, v 6, v 7] := funext fun k => by fin_cases k <;> rfl
  rw [e]
  exact funext (sortNet_lit _ _ _ _ _ _ _ _)

theorem cleanNet_lit : ∀ a b : Fin 9, ∀ k : Fin 8,
    runNet or and cleanNet (fun k => or (upTo a.val k) (upTo b.val (Fin.rev k))) k = upTo (a.val + b.val) k := by decide +kernel

/-- The merge network takes two such runs, the second one backwards, to the run of as many as both have. -/
theorem cleanNet_bool (a b : ℕ) : runNet or and cleanNet (fun k => or (upTo a k) (upTo b (Fin.rev k))) = upTo (a + b) := by
  have h := funext (cleanNet_lit ⟨min 8 a, by omega⟩ ⟨min 8 b, by omega⟩)
  rw [upTo_min a, upTo_min b, upTo_min (a + b)]
  refine h.trans ((upTo_min _).trans (congrArg upTo ?_))
  show min 8 (min 8 a + min 8 b) = min 8 (a + b)
  omega

/-- After `n` steps on truth values, from none true, the running eight are true up to the count of the true ones met. -/
theorem stepN_bool (b : ℕ → Bool) : ∀ n, stepN or and (fun _ => false) b n = upTo (∑ i ∈ Finset.range (8 * n), (b i).toNat)
  | 0 => funext fun _ => (decide_eq_false (by simp)).symm
  | n + 1 => by
    show runNet or and cleanNet (fun k => or (stepN or and (fun _ => false) b n k) (runNet or and sortNet _ (Fin.rev k))) = _
    rw [stepN_bool b n, sortNet_bool, cleanNet_bool]
    refine congrArg upTo ?_
    rw [show 8 * (n + 1) = 8 * n + 1 + 1 + 1 + 1 + 1 + 1 + 1 + 1 by omega]
    simp only [Finset.sum_range_succ]
    unfold trues
    simp only [← Nat.add_assoc]
    rfl

/-- The running eight of the kernel, from −∞, list the greatest of the rows met. -/
theorem stepN_lists (x : ℕ → EReal) (n : ℕ) :
    Lists (stepN max min (fun _ => ⊥) x n) (above fun i : Fin (8 * n) => x i.val) := fun t ht k => by
  have h := congrFun (stepN_map (fun a : EReal => decide (t ≤ a)) (mx := max) (mn := min) (mx' := or) (mn' := and)
    (fun a b => by rw [Bool.eq_iff_iff]; simp [le_max_iff])
    (fun a b => by rw [Bool.eq_iff_iff]; simp [le_min_iff]) (fun _ => ⊥) x n) k
  have hb : (fun _ : Fin 8 => decide (t ≤ (⊥ : EReal))) = fun _ => false := funext fun _ => decide_eq_false (not_le.mpr ht)
  rw [hb, stepN_bool] at h
  have hc : (∑ i ∈ Finset.range (8 * n), (decide (t ≤ x i)).toNat) = above (fun i : Fin (8 * n) => x i.val) t := by
    rw [← Fin.sum_univ_eq_sum_range (fun i => (decide (t ≤ x i)).toNat) (8 * n)]
    exact Finset.sum_congr rfl fun i _ => by by_cases hx : t ≤ x i.val <;> simp [hx]
  rw [hc] at h
  exact decide_eq_decide.mp h

/-! ## Striking out the greatest -/

/-- Striking out one entry that is the greatest takes one from every positive count. -/
theorem above_strike {ι : Type} [Fintype ι] [DecidableEq ι] (x : ι → EReal) (i₀ : ι) (hmax : ∀ i, x i ≤ x i₀) (t : EReal) (ht : ⊥ < t) :
    above (fun i => if i = i₀ then ⊥ else x i) t = above x t - 1 := by
  unfold above
  rw [← Finset.add_sum_erase _ _ (Finset.mem_univ i₀), ← Finset.add_sum_erase _ (fun i => if t ≤ x i then 1 else 0) (Finset.mem_univ i₀)]
  have e : (∑ i ∈ Finset.univ.erase i₀, if t ≤ (if i = i₀ then ⊥ else x i) then 1 else 0)
      = ∑ i ∈ Finset.univ.erase i₀, if t ≤ x i then 1 else 0 :=
    Finset.sum_congr rfl fun i hi => by rw [if_neg (Finset.ne_of_mem_erase hi)]
  beta_reduce
  rw [e, if_pos rfl, if_neg (not_le.mpr ht), Nat.zero_add]
  by_cases h : t ≤ x i₀
  · rw [if_pos h, Nat.add_sub_cancel_left]
  · have z : (∑ i ∈ Finset.univ.erase i₀, if t ≤ x i then 1 else 0) = 0 :=
      Finset.sum_eq_zero fun i _ => if_neg fun hi => h (hi.trans (hmax i))
    rw [z, if_neg h]; rfl

/-- The greatest entry reaches a threshold exactly when some entry does. -/
theorem le_greatest_iff {ι : Type} [Fintype ι] (x : ι → EReal) (i₀ : ι) (hmax : ∀ i, x i ≤ x i₀) (t : EReal) :
    t ≤ x i₀ ↔ 0 < above x t := by
  constructor
  · intro h
    refine lt_of_lt_of_le Nat.zero_lt_one ?_
    calc 1 = if t ≤ x i₀ then 1 else 0 := (if_pos h).symm
      _ ≤ _ := Finset.single_le_sum (f := fun i => if t ≤ x i then 1 else 0) (fun _ _ => Nat.zero_le _) (Finset.mem_univ i₀)
  · intro h
    by_contra hn
    refine absurd h (not_lt.mpr (le_of_eq (Finset.sum_eq_zero fun i _ => if_neg fun hi => hn (hi.trans (hmax i)))))

/-! ## The reference's sort -/

section Sorting
open Idealize.ShloMosaic

/-- Of a list sorted downwards, the entries that reach a threshold come first. -/
theorem sorted_get_iff (t : EReal) : ∀ (l : List EReal), l.Pairwise (fun a b => b ≤ a) → ∀ (k : ℕ) (hk : k < l.length),
    t ≤ l[k] ↔ k < l.countP (fun a => decide (t ≤ a))
  | [], _, k, hk => absurd hk (Nat.not_lt_zero _)
  | a :: l, h, k, hk => by
    rw [List.pairwise_cons] at h
    by_cases ha : t ≤ a
    · rw [List.countP_cons_of_pos (by simpa using ha)]
      cases k with
      | zero => exact ⟨fun _ => Nat.succ_pos _, fun _ => ha⟩
      | succ k => exact (sorted_get_iff t l h.2 k (Nat.lt_of_succ_lt_succ hk)).trans Nat.succ_lt_succ_iff.symm
    · have z : (a :: l).countP (fun b => decide (t ≤ b)) = 0 := by
        refine List.countP_eq_zero.mpr fun b hb => ?_
        have : b ≤ a := by
          rcases List.mem_cons.mp hb with rfl | hb
          · exact le_rfl
          · exact h.1 b hb
        simpa using lt_of_le_of_lt this (not_le.mp ha)
      rw [z]
      refine ⟨fun hk' => absurd (hk'.trans ?_) ha, fun hk' => absurd hk' (Nat.not_lt_zero _)⟩
      have hm : (a :: l)[k] ∈ a :: l := List.getElem_mem hk
      rcases List.mem_cons.mp hm with e | hb
      · exact le_of_eq e
      · exact h.1 _ hb

/-- A stable sort by "greater" lists the family downwards: its first `n` places list the greatest. -/
theorem sortedFrom_lists {N : ℕ} (x : Fin N → EReal) (before : Fin N → Fin N → Bool) (hb : ∀ i j, before i j = decide (x j < x i))
    (t : EReal) (k : Fin N) : t ≤ x (sortedFrom before k) ↔ k.val < above x t := by
  have hp : ((sortPositions N before).map x).Pairwise fun a b => b ≤ a := by
    rw [List.pairwise_map]
    refine (pairwise_stableSort before before (fun a b h => ?_) (fun _ _ h => h) (fun a b c h h' => ?_) (List.finRange N)).imp fun {a b} h => ?_
    · rw [hb] at h ⊢; exact decide_eq_false (not_lt.mpr (le_of_lt (of_decide_eq_true h)))
    · rw [hb] at h h' ⊢; exact decide_eq_false (not_lt.mpr ((not_lt.mp (of_decide_eq_false h)).trans (not_lt.mp (of_decide_eq_false h'))))
    · rw [hb] at h; exact not_lt.mp (of_decide_eq_false h)
  have hk : k.val < ((sortPositions N before).map x).length := by rw [List.length_map, length_sortPositions]; exact k.isLt
  have h := sorted_get_iff t _ hp k.val hk
  rw [List.getElem_map] at h
  refine h.trans ?_
  have hc : ((sortPositions N before).map x).countP (fun a => decide (t ≤ a)) = above x t := by
    rw [List.countP_map, (perm_sortPositions N before).countP_eq]
    unfold above
    rw [Finset.sum_boole, Nat.cast_id, List.countP_eq_length_filter]
    rw [← List.toFinset_card_of_nodup ((List.nodup_finRange N).filter _)]
    congr 1
    ext i; simp
  rw [hc]

end Sorting

end Cert.TopEight

end
-- ==== Proof.Columns.lean ====
/- The selection rounds over the extended reals: each takes the greatest of a column and strikes one entry that reaches it,
   so eight of them list the eight greatest. -/
module

public import proofs.«01_k».proof.Proof.Count
public import proofs.«01_k».proof.Proof.Rounds
public import Idealize.ShloMosaic.PureOps.Ideal.Laws
public import Idealize.ShloMosaic.Lib.Pointwise.Reduce
public import Idealize.ShloMosaic.Lib.ValueLayout
public import Idealize.ShloMosaic.Lib.WordCmp
public import Idealize.ShloMosaic.Lib.Pipeline.Value

@[expose] public section

set_option maxRecDepth 16384

noncomputable section

namespace Cert.TopEight

open Cert.KernelIdeal Cert.KernelIdeal.Gen
open Idealize.ShloMosaic

/-- The library's two spellings of a rank-1 and of a rank-2 index agree. -/
theorem ix1_same {a : ℕ} (i : Fin a) : ValueIdx.ix1 i = ix1 i := funext fun d => match d with | ⟨0, _⟩ => rfl
theorem ix2_same {a b : ℕ} (i : Fin a) (j : Fin b) : ValueIdx.ix2 i j = ix2 i j :=
  funext fun d => match d with | ⟨0, _⟩ => rfl | ⟨1, _⟩ => rfl
theorem ix3_same {a b c : ℕ} (i : Fin a) (j : Fin b) (k : Fin c) : ValueIdx.ix3 i j k = ix3 i j k :=
  funext fun d => match d with | ⟨0, _⟩ => rfl | ⟨1, _⟩ => rfl | ⟨2, _⟩ => rfl

/-- A row as a block of one row, -/
theorem cast_row {α : Type} {m : ℕ} (x : (lane m).Idx → α) (h : (lane m).ShapeCasts (blk 1 m)) (c : Fin m) :
    shapeCast (blk 1 m) x h (ix2 0 c) = x (ix1 c) := by
  rw [← ix2_same, ← ix1_same]
  exact ValueIdx.shapeCast_a_1a_apply x h 0 c

/-- and that row on every row. -/
theorem spread_row {α : Type} {n m : ℕ} (x : (blk 1 m).Idx → α) (h : (blk 1 m).Broadcasts (blk n m)) (r : Fin n) (c : Fin m) :
    broadcastTo (blk n m) x h (ix2 r c) = x (ix2 0 c) := by
  rw [← ix2_same, ← ix2_same]
  exact ValueIdx.broadcastTo_1b_ab_apply x h r c

/-- The kernel's −∞ is the extended reals' least. -/
theorem negInf_ideal : (negInf (F := Ideal)) = (⊥ : EReal) := by
  show Ideal.ofBits .f32 0xFF800000#32 = ⊥
  simp [Ideal.ofBits, Ideal.ieee]

/-- The least of the words `g i`, from `init`: no more than each of them, and one of them or `init`. -/
theorem least_word {ι : Type} [DecidableEq ι] (g : ι → BitVec 32) (init : BitVec 32) (s : Finset ι) :
    (∀ i ∈ s, (s.fold IKind.minsi.op init g).toInt ≤ (g i).toInt)
      ∧ (s.fold IKind.minsi.op init g = init ∨ ∃ i ∈ s, s.fold IKind.minsi.op init g = g i) := by
  induction s using Finset.induction_on with
  | empty => exact ⟨fun i hi => absurd hi (Finset.notMem_empty i), .inl Finset.fold_empty⟩
  | insert a s ha ih =>
    rw [Finset.fold_insert ha]
    have hop : IKind.minsi.op (g a) (s.fold IKind.minsi.op init g)
        = if (g a).toInt < (s.fold IKind.minsi.op init g).toInt then g a else s.fold IKind.minsi.op init g :=
      if_congr BitVec.slt_iff_toInt_lt rfl rfl
    rw [hop]
    by_cases h : (g a).toInt < (s.fold IKind.minsi.op init g).toInt
    · rw [if_pos h]
      refine ⟨fun i hi => ?_, .inr ⟨a, Finset.mem_insert_self a s, rfl⟩⟩
      rcases Finset.mem_insert.mp hi with rfl | hi
      · exact le_rfl
      · exact (le_of_lt h).trans (ih.1 i hi)
    · rw [if_neg h]
      refine ⟨fun i hi => ?_, ?_⟩
      · rcases Finset.mem_insert.mp hi with rfl | hi
        · exact not_lt.mp h
        · exact ih.1 i hi
      · rcases ih.2 with e | ⟨i, hi, e⟩
        · exact .inl e
        · exact .inr ⟨i, Finset.mem_insert_of_mem hi, e⟩

section

variable {n m : ℕ} (h : Fit n m) (v : FVec Ideal (blk n m) .f32)

/-- Column `c` of a block. -/
def column (v : FVec Ideal (blk n m) .f32) (c : Fin m) : Fin n → EReal := fun r => v (ix2 r c)

theorem greatest_eq (c : Fin m) : greatest h v (ix2 0 c) = Finset.univ.sup (column v c) := by
  unfold greatest
  rw [cast_row]
  refine (multiReduction_maximumf_eq_fold v 0xFF800000#32 h.red (.inl rfl) rfl (ix1 c)).trans ?_
  rw [h.red.fold_fiber_r2_a0 (ix1 c)]
  show Finset.univ.fold max (Ideal.ofBits .f32 0xFF800000#32) (fun k : Fin n => v (ix2 k c)) = _
  rw [show Ideal.ofBits .f32 0xFF800000#32 = (⊥ : EReal) from negInf_ideal]
  rfl

theorem reaches_eq (r : Fin n) (c : Fin m) :
    reaches h v (ix2 r c) = BitVec.ofBool (decide (column v c r = Finset.univ.sup (column v c))) := by
  unfold reaches
  show FloatOps.cmpf .oeq (v (ix2 r c)) (broadcastTo (blk n m) (greatest h v) h.spread (ix2 r c)) = _
  rw [spread_row, greatest_eq]
  rfl

theorem rowNo_eq (r : Fin n) (c : Fin m) : rowNo h (ix2 r c) = BitVec.ofNat 32 r.val := iota_single_apply _ _ _ _ h.count _

/-- The row struck out of column `c` reaches the column's greatest. -/
theorem firstRow_eq (hn : 0 < n) (hn' : n < 2147483647) (c : Fin m) :
    ∃ r₀ : Fin n, column v c r₀ = Finset.univ.sup (column v c) ∧ ∀ r : Fin n, firstRow h v (ix2 r c) = BitVec.ofNat 32 r₀.val := by
  have key (r : Fin n) : firstRow h v (ix2 r c) = Finset.univ.fold IKind.minsi.op 2147483647#32
      (fun k : Fin n => if column v c k = Finset.univ.sup (column v c) then BitVec.ofNat 32 k.val else BitVec.ofNat 32 n) := by
    unfold firstRow
    rw [spread_row, cast_row]
    refine (multiReductionI_eq_fold .minsi _ 2147483647#32 h.red rfl (ix1 c)).trans ?_
    rw [h.red.fold_fiber_r2_a0 (ix1 c)]
    refine congrArg (fun f => Finset.univ.fold IKind.minsi.op 2147483647#32 f) (funext fun k => ?_)
    show Scalar.select (reaches h v (ix2 k c)) (rowNo h (ix2 k c)) (BitVec.ofNat 32 n) = _
    rw [reaches_eq, rowNo_eq, WordCmp.select_ofBool]
    exact if_congr (by simp) rfl rfl
  have toI (k : ℕ) (hk : k ≤ n) : (BitVec.ofNat 32 k).toInt = (k : ℤ) := by
    rw [BitVec.toInt_eq_toNat_cond, BitVec.toNat_ofNat, Nat.mod_eq_of_lt (by omega), if_pos (by omega)]
  obtain ⟨i, -, hi⟩ := Finset.exists_mem_eq_sup (Finset.univ : Finset (Fin n)) ⟨⟨0, hn⟩, Finset.mem_univ _⟩ (column v c)
  obtain ⟨h1, h2⟩ := least_word (fun k : Fin n => if column v c k = Finset.univ.sup (column v c) then BitVec.ofNat 32 k.val else BitVec.ofNat 32 n)
    2147483647#32 Finset.univ
  have hi' := h1 i (Finset.mem_univ i)
  rw [if_pos hi.symm, toI _ (le_of_lt i.isLt)] at hi'
  have hin := i.isLt
  rcases h2 with e | ⟨k, -, e⟩
  · rw [e, show (2147483647#32).toInt = 2147483647 by decide] at hi'
    omega
  · by_cases hk : column v c k = Finset.univ.sup (column v c)
    · exact ⟨k, hk, fun r => (key r).trans (e.trans (if_pos hk))⟩
    · rw [e, if_neg hk, toI _ le_rfl] at hi'
      omega

/-- A round strikes one entry of each column, and that entry is the column's greatest. -/
theorem struck_eq (hn : 0 < n) (hn' : n < 2147483647) (c : Fin m) :
    ∃ r₀ : Fin n, column v c r₀ = Finset.univ.sup (column v c) ∧ column (struck h v) c = fun r => if r = r₀ then ⊥ else column v c r := by
  obtain ⟨r₀, h0, h1⟩ := firstRow_eq h v hn hn' c
  refine ⟨r₀, h0, funext fun r => ?_⟩
  show Scalar.select (reaches h v (ix2 r c) &&& IntOp.cmpi .eq (rowNo h (ix2 r c)) (firstRow h v (ix2 r c))) (negInf (F := Ideal)) (v (ix2 r c)) = _
  rw [reaches_eq, rowNo_eq, h1 r, WordCmp.cmpi_eq_eq, negInf_ideal]
  have hr := r.isLt
  have hr0 := r₀.isLt
  have hw : BitVec.ofNat 32 r.val = BitVec.ofNat 32 r₀.val ↔ r = r₀ := by
    refine ⟨fun e => Fin.ext ?_, fun e => by rw [e]⟩
    have := congrArg BitVec.toNat e
    rw [BitVec.toNat_ofNat, BitVec.toNat_ofNat, Nat.mod_eq_of_lt (by omega), Nat.mod_eq_of_lt (by omega)] at this
    exact this
  by_cases e : r = r₀
  · subst e
    rw [decide_eq_true h0, decide_eq_true rfl, if_pos rfl]
    rfl
  · rw [decide_eq_false (fun hh => e (hw.mp hh)), if_neg e]
    show Scalar.select (BitVec.ofBool (decide _) &&& 0#1) _ _ = _
    rw [BitVec.and_zero]
    rfl

/-- `k` rounds take `k` from a column's counts. -/
theorem rounds_above (hn : 0 < n) (hn' : n < 2147483647) (c : Fin m) (t : EReal) (ht : ⊥ < t) :
    ∀ k, above (column (rounds h v k) c) t = above (column v c) t - k
  | 0 => rfl
  | k + 1 => by
    obtain ⟨r₀, h0, h1⟩ := struck_eq h (rounds h v k) hn hn' c
    show above (column (struck h (rounds h v k)) c) t = _
    rw [h1, above_strike _ r₀ (fun i => (Finset.le_sup (f := column (rounds h v k) c) (Finset.mem_univ i)).trans (le_of_eq h0.symm)) t ht, rounds_above hn hn' c t ht k]
    omega

/-- The greatest after `k` rounds, for `k = 0` to `7`, list the eight greatest of a column. -/
theorem greatest_lists (hn : 0 < n) (hn' : n < 2147483647) (c : Fin m) :
    Lists (fun k : Fin 8 => greatest h (rounds h v k.val) (ix2 0 c)) (above (column v c)) := fun t ht k => by
  obtain ⟨r₀, h0, -⟩ := struck_eq h (rounds h v k.val) hn hn' c
  show t ≤ greatest h (rounds h v k.val) (ix2 0 c) ↔ _
  rw [greatest_eq, ← h0, le_greatest_iff _ r₀ (fun i => (Finset.le_sup (f := column (rounds h v k.val) c) (Finset.mem_univ i)).trans (le_of_eq h0.symm)), rounds_above h v hn hn' c t ht]
  omega

end

end Cert.TopEight

end
-- ==== Proof.Reads.lean ====
/- The layout steps of the selections read at an index: which round or which row of which piece each entry is. -/
module

public import proofs.«01_k».proof.Proof.Columns
public import proofs.«01_k».proof.Proof.Regions
public import Idealize.ShloMosaic.Lib.Pointwise.SelectCore

@[expose] public section

set_option maxRecDepth 16384

noncomputable section

namespace Cert.TopEight

open Cert.KernelIdeal Cert.KernelIdeal.Gen
open Idealize.ShloMosaic

variable {F : FTy → Type} [FloatOps F]

/-- Entry `k` of lane `l` of the first kernel's selections is the `k`-th round's greatest. -/
theorem best64_at (w : FVec F (blk 64 128) .f32) (k : Fin 8) (l : Fin 128) :
    best64 w (ix3 0 k l) = greatest fit64 (rounds fit64 w k.val) (ix2 0 l) := by
  unfold best64
  refine (shapeCast_apply _ _ _ (ix2 k l) ?_).trans ?_
  · rw [Shape.rowMajor_val_two, Shape.rowMajor_val_three]
    show k.val * 128 + l.val = (0 * 8 + k.val) * 128 + l.val
    omega
  · refine (concatenate_ofFn_unit_apply' (s₁ := S1x128) (N := 8) 0 (fun n : Fin 8 => greatest fit64 (rounds fit64 w n.val))
      concatenates_S1x128_S1x128_S1x128_S1x128_S1x128_S1x128_S1x128_S1x128_S8x128_d0 rfl (ix2 k l)).trans ?_
    refine congrArg (greatest fit64 (rounds fit64 w k.val)) (funext fun a => ?_)
    match a with
    | ⟨0, _⟩ => rfl
    | ⟨1, _⟩ => rfl

/-- Entry `k` of column `c` of the second kernel's selections is the `k`-th round's greatest. -/
theorem best72_at (w : FVec F (blk 72 1024) .f32) (c : Fin 1024) (k : Fin 8) :
    best72 w (ix3 0 c k) = greatest fit72 (rounds fit72 w k.val) (ix2 0 c) := by
  unfold best72
  refine (shapeCast_apply _ _ _ (ix2 c k) ?_).trans ?_
  · rw [Shape.rowMajor_val_two, Shape.rowMajor_val_three]
    show c.val * 8 + k.val = (0 * 1024 + c.val) * 8 + k.val
    omega
  · rw [← ix2_same]
    refine (ValueIdx.transpose_ix2_apply _ _ _ _).trans ?_
    rw [ix2_same]
    refine (concatenate_ofFn_unit_apply' (s₁ := S1x1024) (N := 8) 0 (fun n : Fin 8 => greatest fit72 (rounds fit72 w n.val))
      concatenates_S1x1024_S1x1024_S1x1024_S1x1024_S1x1024_S1x1024_S1x1024_S1x1024_S8x1024_d0 rfl (ix2 k c)).trans ?_
    refine congrArg (greatest fit72 (rounds fit72 w k.val)) (funext fun a => ?_)
    match a with
    | ⟨0, _⟩ => rfl
    | ⟨1, _⟩ => rfl

/-- Row `8 k + s` of the sixty-four is row `s` of the `k`-th of the running eight. -/
theorem stacked_at (v : Fin 8 → FVec F S8x128 .f32) (k s : Fin 8) (l : Fin 128) (r : Fin 64) (hr : r.val = s.val + 8 * k.val) :
    stacked v (ix2 r l) = v k (ix2 s l) := by
  unfold stacked
  have hs := s.isLt
  obtain ⟨r, hr'⟩ := r
  obtain rfl : r = s.val + 8 * k.val := hr
  have row : ∀ (j : Fin 8) (e : S8x128.Idx), (e 0).val + 8 * j.val = s.val + 8 * k.val → (e 1).val = l.val → v j e = v k (ix2 s l) := by
    intro j e h0 h1
    have he : (e 0).val < 8 := (e 0).isLt
    obtain rfl : j = k := Fin.ext (by omega)
    exact congrArg _ (funext fun a => match a with | ⟨0, _⟩ => Fin.ext (show (e 0).val = s.val by omega) | ⟨1, _⟩ => Fin.ext h1)
  have pick : ∀ {p : Prop} [Decidable p] {x : p → F .f32} {y : ¬p → F .f32} {z}, (∀ h, x h = z) → (∀ h, y h = z) → dite p x y = z := by
    intro p _ x y z hx hy; by_cases h : p
    · exact (dif_pos h).trans (hx h)
    · exact (dif_neg h).trans (hy h)
  rw [concatenate_cons_apply]
  simp only [concatenateAt_cons, concatenateAt_singleton]
  refine pick (p := s.val + 8 * k.val < 8) (fun h0 => row 0 _ (show s.val + 8 * k.val + 8 * 0 = _ by omega) rfl) fun h0 => ?_
  refine pick (p := s.val + 8 * k.val - 8 < 8) (fun h1 => row 1 _ (show s.val + 8 * k.val - 8 + 8 * 1 = _ by omega) rfl) fun h1 => ?_
  refine pick (p := s.val + 8 * k.val - 8 - 8 < 8) (fun h2 => row 2 _ (show s.val + 8 * k.val - 8 - 8 + 8 * 2 = _ by omega) rfl) fun h2 => ?_
  refine pick (p := s.val + 8 * k.val - 8 - 8 - 8 < 8) (fun h3 => row 3 _ (show s.val + 8 * k.val - 8 - 8 - 8 + 8 * 3 = _ by omega) rfl) fun h3 => ?_
  refine pick (p := s.val + 8 * k.val - 8 - 8 - 8 - 8 < 8) (fun h4 => row 4 _ (show s.val + 8 * k.val - 8 - 8 - 8 - 8 + 8 * 4 = _ by omega) rfl) fun h4 => ?_
  refine pick (p := s.val + 8 * k.val - 8 - 8 - 8 - 8 - 8 < 8) (fun h5 => row 5 _ (show s.val + 8 * k.val - 8 - 8 - 8 - 8 - 8 + 8 * 5 = _ by omega) rfl) fun h5 => ?_
  refine pick (p := s.val + 8 * k.val - 8 - 8 - 8 - 8 - 8 - 8 < 8) (fun h6 => row 6 _ (show s.val + 8 * k.val - 8 - 8 - 8 - 8 - 8 - 8 + 8 * 6 = _ by omega) rfl) fun h6 => ?_
  exact row 7 _ (show s.val + 8 * k.val - 8 - 8 - 8 - 8 - 8 - 8 - 8 + 8 * 7 = _ by omega) rfl

/-- The first eight of a batch's candidates are the TensorCore's, -/
theorem cands_low (a : FVec F S1x8x1024 .f32) (b : FVec F S1x64x1024 .f32) (k : Fin 8) (c : Fin 1024) (r : Fin 72) (hr : r.val = k.val) :
    cands a b (ix2 r c) = a (ix3 0 k c) := by
  obtain ⟨r, hr'⟩ := r
  obtain rfl : r = k.val := hr
  unfold cands
  refine (concatenate_pair_apply ..).trans ?_
  refine (dif_pos (show k.val < 8 from k.isLt)).trans ?_
  refine shapeCast_apply _ _ _ (ix3 0 k c) ?_
  rw [Shape.rowMajor_val_two, Shape.rowMajor_val_three]
  show (0 * 8 + k.val) * 1024 + c.val = k.val * 1024 + c.val
  omega

/-- and the other sixty-four the SparseCore's. -/
theorem cands_high (a : FVec F S1x8x1024 .f32) (b : FVec F S1x64x1024 .f32) (i : Fin 64) (c : Fin 1024) (r : Fin 72) (hr : r.val = 8 + i.val) :
    cands a b (ix2 r c) = b (ix3 0 i c) := by
  obtain ⟨r, hr'⟩ := r
  obtain rfl : r = 8 + i.val := hr
  unfold cands
  refine (concatenate_pair_apply ..).trans ?_
  refine (dif_neg (show ¬ 8 + i.val < 8 by omega)).trans ?_
  refine shapeCast_apply _ _ _ (ix3 0 i c) ?_
  rw [Shape.rowMajor_val_two, Shape.rowMajor_val_three]
  show (0 * 64 + i.val) * 1024 + c.val = (8 + i.val - 8) * 1024 + c.val
  omega

/-- Row `8 s + k` of the SparseCore's candidates is rank `k` of shard `s`. -/
theorem wide_at (X : S4x4096x1024.Idx → F .f32) (b : Fin 4) (s k : Fin 8) (c : Fin 1024) (i : Fin 64) (hi : i.val = k.val + 8 * s.val) :
    wide X (ix3 b i c) = stepN FloatOps.maximumf FloatOps.minimumf (fun _ => negInf)
      (fun r => X (ix3 b (Fin.ofNat 4096 (2560 + 192 * s.val + r)) c)) 24 k := by
  unfold wide
  refine shapeCast_apply (s := S4x8x8x1024) _ _ _ (fun a => match a with | ⟨0, _⟩ => b | ⟨1, _⟩ => s | ⟨2, _⟩ => k | ⟨3, _⟩ => c) ?_
  rw [Shape.rowMajor_val_three, Shape.rowMajor_val_four]
  show ((b.val * 8 + s.val) * 8 + k.val) * 1024 + c.val = (b.val * 64 + i.val) * 1024 + c.val
  omega

end Cert.TopEight

end
-- ==== Proof.Eight.lean ====
/- What the kernel leaves in a column, over the extended reals: the eight greatest of the column's 4096 entries, since the
   first call lists the eight greatest of the first 2560, every SparseCore shard those of its 192, and the second call those
   of all the lists together. -/
module

public import proofs.«01_k».proof.Proof.Reads

@[expose] public section

set_option maxRecDepth 16384

noncomputable section

namespace Cert.TopEight

open Cert.KernelIdeal Cert.KernelIdeal.Gen
open Idealize.ShloMosaic

/-- A list of the greatest is one for any count that agrees below its length. -/
theorem Lists.of_count {n : ℕ} {m : Fin n → EReal} {c c' : EReal → ℕ} (h : Lists m c)
    (hc : ∀ t, ⊥ < t → ∀ k < n, k < c t ↔ k < c' t) : Lists m c' := fun t ht k => (h t ht k).trans (hc t ht k k.isLt)

/-- The count over `m` blocks of `n` entries, taken the other way round: over the entries of every block at one place. -/
theorem above_swap (m n : ℕ) (x : ℕ → EReal) (t : EReal) :
    ∑ b : Fin n, above (fun a : Fin m => x (b.val + n * a.val)) t = above (fun i : Fin (m * n) => x i.val) t :=
  Finset.sum_comm.trans (above_mul m n x t).symm

/-- Lane `l` of row `s` of the running eight lists the eight greatest of the lane's entries in the rows `8 r + s`. -/
theorem tcRun_lists (A : S1x2560x128.Idx → Ideal .f32) (s : Fin 8) (l : Fin 128) :
    Lists (fun k => tcRun A 40 k (ix2 s l)) (above fun r : Fin 320 => A (ix3 0 (Fin.ofNat 2560 (s.val + 8 * r.val)) l)) := by
  have h := stepN_map (fun v : FVec Ideal S8x128 .f32 => (v (ix2 s l) : EReal)) (mx := maximumf) (mn := minimumf) (mx' := max) (mn' := min)
    (fun _ _ => rfl) (fun _ _ => rfl) (fun _ => broadcast S8x128 (negInf (F := Ideal))) (tcRows A) 40
  have e : (fun _ : Fin 8 => ((broadcast S8x128 (negInf (F := Ideal))) (ix2 s l) : EReal)) = fun _ => ⊥ := funext fun _ => negInf_ideal
  rw [e] at h
  have h' := stepN_lists (fun r => (tcRows A r (ix2 s l) : EReal)) 40
  rw [← h] at h'
  have e' : (fun i : Fin (8 * 40) => (tcRows A i.val (ix2 s l) : EReal))
      = fun r : Fin 320 => (A (ix3 0 (Fin.ofNat 2560 (s.val + 8 * r.val)) l) : EReal) := funext fun r => by
    show A (ix3 0 (Fin.ofNat 2560 (8 * r.val + s.val)) l) = _
    rw [Nat.add_comm]
  rw [e'] at h'
  exact h'

/-- Lane `l` of a block's result lists the eight greatest of the lane's 2560 entries. -/
theorem tcVal_lists (A : S1x2560x128.Idx → Ideal .f32) (l : Fin 128) :
    Lists (fun k : Fin 8 => tcVal A (ix3 0 k l)) (above fun i : Fin 2560 => A (ix3 0 (Fin.ofNat 2560 i.val) l)) := by
  have e : (fun k : Fin 8 => (tcVal A (ix3 0 k l) : EReal))
      = fun k => greatest fit64 (rounds fit64 (stacked (tcRun A 40)) k.val) (ix2 0 l) := funext fun k => by
    unfold tcVal
    rw [tcPick_eq]
    exact best64_at _ k l
  rw [e]
  refine (greatest_lists fit64 _ (by decide) (by decide) l).of_count fun t ht k hk => ?_
  have hc : above (column (stacked (tcRun A 40)) l) t
      = ∑ s : Fin 8, min 8 (above (fun r : Fin 320 => (A (ix3 0 (Fin.ofNat 2560 (s.val + 8 * r.val)) l) : EReal)) t) := by
    rw [← above_equiv (finProdFinEquiv : Fin 8 × Fin 8 ≃ Fin 64)]
    refine (above_prod (fun k s : Fin 8 => column (stacked (tcRun A 40)) l ((finProdFinEquiv : Fin 8 × Fin 8 ≃ Fin 64) (k, s))) t).trans ?_
    refine Finset.sum_comm.trans (Finset.sum_congr rfl fun s _ => ?_)
    rw [← (tcRun_lists A s l).above_eq t ht]
    refine Finset.sum_congr rfl fun k _ => ?_
    exact congrArg (fun v : EReal => if t ≤ v then 1 else 0) (stacked_at (tcRun A 40) k s l _ rfl)
  rw [hc, lt_sum_min 8 k hk, above_swap 320 8 fun i => (A (ix3 0 (Fin.ofNat 2560 i) l) : EReal)]

/-- Capping both parts of a count at eight changes no comparison below eight. -/
theorem lt_add_min (a n n' k : ℕ) (hk : k < 8) (h : ∀ k < 8, k < n' ↔ k < n) : k < min 8 a + n' ↔ k < a + n := by
  have h1 := h k hk
  have h2 := h (n - 1)
  have h3 := h n
  omega

variable (X : S4x4096x1024.Idx → Ideal .f32) (b : Fin 4) (c : Fin 1024)

/-- Column `c` of batch `b`, entry by entry. -/
def entry (i : ℕ) : EReal := X (ix3 b (Fin.ofNat 4096 i) c)

/-- The first call's column lists the eight greatest of the first 2560 entries. -/
theorem tcOut_lists : Lists (fun k : Fin 8 => tcOut X (ix3 b k c)) (above fun i : Fin 2560 => entry X b c i.val) := by
  have h := tcVal_lists (blkA X b ⟨c.val / 128, by omega⟩) ⟨c.val % 128, Nat.mod_lt _ (by decide)⟩
  have e : (fun i : Fin 2560 => (blkA X b ⟨c.val / 128, by omega⟩ (ix3 0 (Fin.ofNat 2560 i.val) ⟨c.val % 128, Nat.mod_lt _ (by decide)⟩) : EReal))
      = fun i => entry X b c i.val := funext fun i => by
    refine congrArg X (funext fun a => ?_)
    match a with
    | ⟨0, _⟩ => rfl
    | ⟨1, _⟩ =>
      refine Fin.ext ?_
      show i.val % 2560 = i.val % 4096
      omega
    | ⟨2, _⟩ =>
      refine Fin.ext ?_
      show 128 * (c.val / 128) + c.val % 128 = c.val
      omega
  rw [e] at h
  exact h

/-- A shard's column lists the eight greatest of its 192 entries. -/
theorem wide_lists (s : Fin 8) :
    Lists (fun k : Fin 8 => wide X (ix3 b ((finProdFinEquiv : Fin 8 × Fin 8 ≃ Fin 64) (s, k)) c))
      (above fun r : Fin 192 => entry X b c (2560 + (r.val + 192 * s.val))) := by
  have e : (fun k : Fin 8 => (wide X (ix3 b ((finProdFinEquiv : Fin 8 × Fin 8 ≃ Fin 64) (s, k)) c) : EReal))
      = stepN max min (fun _ => ⊥) (fun r => entry X b c (2560 + (r + 192 * s.val))) 24 := funext fun k => by
    refine (wide_at X b s k c _ rfl).trans ?_
    rw [negInf_ideal]
    refine congrFun (congrArg (fun x => stepN (α := EReal) max min (fun _ => ⊥) x 24) (funext fun r => ?_)) k
    unfold entry
    rw [show 2560 + (r + 192 * s.val) = 2560 + 192 * s.val + r by omega]
  rw [e]
  exact stepN_lists _ 24

/-- What the kernel leaves of a column lists the eight greatest of its 4096 entries. -/
theorem mergeVal_lists : Lists (fun k : Fin 8 => mergeVal (tcOut X) (wide X) (ix3 b c k)) (above fun i : Fin 4096 => entry X b c i.val) := by
  have e : (fun k : Fin 8 => (mergeVal (tcOut X) (wide X) (ix3 b c k) : EReal))
      = fun k => greatest fit72 (rounds fit72 (cands (batch8 (tcOut X) b) (batch64 (wide X) b)) k.val) (ix2 0 c) :=
    funext fun k => best72_at _ c k
  rw [e]
  refine (greatest_lists fit72 _ (by decide) (by decide) c).of_count fun t ht k hk => ?_
  have hc : above (column (cands (batch8 (tcOut X) b) (batch64 (wide X) b)) c) t
      = min 8 (above (fun i : Fin 2560 => entry X b c i.val) t)
        + ∑ s : Fin 8, min 8 (above (fun r : Fin 192 => entry X b c (2560 + (r.val + 192 * s.val))) t) := by
    refine (Fin.sum_univ_add (a := 8) (b := 64) _).trans (congrArg₂ (· + ·) ?_ ?_)
    · rw [← (tcOut_lists X b c).above_eq t ht]
      refine Finset.sum_congr rfl fun k _ => ?_
      exact congrArg (fun v : EReal => if t ≤ v then 1 else 0) (cands_low (batch8 (tcOut X) b) (batch64 (wide X) b) k c (Fin.castAdd 64 k) rfl)
    · refine (above_equiv (finProdFinEquiv : Fin 8 × Fin 8 ≃ Fin 64)
        (fun i : Fin 64 => column (cands (batch8 (tcOut X) b) (batch64 (wide X) b)) c (Fin.natAdd 8 i)) t).symm.trans ?_
      refine (above_prod (fun s k : Fin 8 => column (cands (batch8 (tcOut X) b) (batch64 (wide X) b)) c
        (Fin.natAdd 8 ((finProdFinEquiv : Fin 8 × Fin 8 ≃ Fin 64) (s, k)))) t).trans ?_
      refine Finset.sum_congr rfl fun s _ => ?_
      rw [← (wide_lists X b c s).above_eq t ht]
      refine Finset.sum_congr rfl fun k _ => ?_
      exact congrArg (fun v : EReal => if t ≤ v then 1 else 0) (cands_high (batch8 (tcOut X) b) (batch64 (wide X) b)
        ((finProdFinEquiv : Fin 8 × Fin 8 ≃ Fin 64) (s, k)) c (Fin.natAdd 8 ((finProdFinEquiv : Fin 8 × Fin 8 ≃ Fin 64) (s, k))) rfl)
  have h1 := above_mul 8 192 (fun i => entry X b c (2560 + i)) t
  have h2 := above_add 2560 1536 (entry X b c) t
  change above (fun i : Fin 1536 => entry X b c (2560 + i.val)) t = _ at h1
  change above (fun i : Fin 4096 => entry X b c i.val) t = _ at h2
  rw [hc, h2, h1]
  exact lt_add_min _ _ _ k hk fun k hk => lt_sum_min 8 k hk _

end Cert.TopEight

end
-- ==== Proof.Value.lean ====
/- The value: over the extended reals the kernel's result is the reference's, since both list the eight greatest of every
   column, downwards. -/
module

public import proofs.«01_k».proof.Proof.Eight
public import proofs.«01_k».proof.Proof.Frames

@[expose] public section

set_option maxRecDepth 16384

noncomputable section

namespace Cert.TopEight

open Idealize.ShloMosaic Idealize.SL.Sem

/-- The reference's eight values of each column before it joins the columns' lists. -/
def refVal (X : Cert.ReferenceIdeal.S4x4096x1024.Idx → Ideal .f32) : Cert.ReferenceIdeal.S4x1024x8.Idx → Ideal .f32 :=
  (Host.topK Cert.ReferenceIdeal.S4x1024x8 2 (FloatOps.cmpfTotal .gt)
    (transpose Cert.ReferenceIdeal.S4x1024x4096 [0, 2, 1] X Cert.ReferenceIdeal.Gen.transposes_S4x4096x1024_S4x1024x4096_0_2_1)
    Cert.ReferenceIdeal.Gen.sliceFits_S4x1024x4096_S4x1024x8).1

/-- The reference's values of a column list the eight greatest of its 4096 entries. -/
theorem refVal_lists (X : Cert.ReferenceIdeal.S4x4096x1024.Idx → Ideal .f32) (b : Fin 4) (c : Fin 1024) :
    Lists (fun k : Fin 8 => refVal X (ix3 b c k)) (above fun i : Fin 4096 => entry X b c i.val) := fun t _ k => by
  have hT : ∀ i : Fin 4096, transpose Cert.ReferenceIdeal.S4x1024x4096 [0, 2, 1] X
      Cert.ReferenceIdeal.Gen.transposes_S4x4096x1024_S4x1024x4096_0_2_1 ((ix3 b c (⟨k.val, by omega⟩ : Fin 4096)).along (2 : Fin 3) i)
        = entry X b c i.val := fun i => by
    have e : (ix3 b c (⟨k.val, by omega⟩ : Fin 4096)).along (2 : Fin 3) i = ValueIdx.ix3 b c i := by
      rw [ix3_same]
      exact funext fun a => match a with | ⟨0, _⟩ => rfl | ⟨1, _⟩ => rfl | ⟨2, _⟩ => rfl
    rw [e]
    refine (ValueIdx.transpose_ix3_021_apply _ _ _ _ _).trans ?_
    rw [ix3_same]
    unfold entry
    refine congrArg (fun i => X (ix3 b i c)) (Fin.ext ?_)
    show i.val = i.val % 4096
    omega
  have h := sortedFrom_lists (fun i : Fin 4096 => entry X b c i.val)
    (fun i j => FloatOps.cmpfTotal (F := Ideal) (φ := .f32) .gt (entry X b c i.val) (entry X b c j.val) == 1#1) (fun i j => by
      show (BitVec.ofBool (decide (entry X b c j.val < entry X b c i.val)) == 1#1) = _
      cases decide (entry X b c j.val < entry X b c i.val) <;> rfl) t ⟨k.val, by omega⟩
  rw [← h]
  have e : refVal X (ix3 b c k) = entry X b c (sortedFrom (fun i j : Fin 4096 =>
      FloatOps.cmpfTotal (F := Ideal) (φ := .f32) .gt (entry X b c i.val) (entry X b c j.val) == 1#1) ⟨k.val, by omega⟩).val := by
    unfold refVal Host.topK
    dsimp only
    refine (extractStridedSlice_apply (fun _ => 0) _ Cert.ReferenceIdeal.Gen.sliceFits_S4x1024x4096_S4x1024x8 (ix3 b c k) (ix3 b c (⟨k.val, by omega⟩ : Fin 4096)) (fun a => match a with
      | ⟨0, _⟩ => (Nat.zero_add _).symm | ⟨1, _⟩ => (Nat.zero_add _).symm | ⟨2, _⟩ => (Nat.zero_add _).symm)).trans ?_
    refine (congrFun (congrArg Prod.fst (dif_pos (show 2 < Cert.ReferenceIdeal.S4x1024x4096.rank by decide))) _).trans ?_
    refine (hT _).trans ?_
    refine congrArg (fun p : Fin 4096 → Fin 4096 → Bool => entry X b c (sortedFrom p ⟨k.val, by omega⟩).val) (funext fun i => funext fun j => ?_)
    exact congrArg₂ (fun x y : EReal => FloatOps.cmpfTotal (F := Ideal) (φ := .f32) .gt x y == 1#1) (hT i) (hT j)
  exact iff_of_eq (congrArg (t ≤ ·) e)

/-- Both programs leave the same array of an input. -/
theorem topOut_eq (X : Cert.KernelIdeal.S4x4096x1024.Idx → Ideal .f32) :
    topOut X = shapeCast Cert.ReferenceIdeal.S4x8192 (refVal X) Cert.ReferenceIdeal.Gen.shapeCasts_S4x1024x8_S4x8192 := by
  unfold topOut
  have e : mergeVal (tcOut X) (wide X) = refVal X := funext fun y => by
    have hy : y = ix3 (y 0) (y 1) (y 2) := funext fun a => match a with | ⟨0, _⟩ => rfl | ⟨1, _⟩ => rfl | ⟨2, _⟩ => rfl
    rw [hy]
    exact (mergeVal_lists X (y 0) (y 1)).unique (refVal_lists X (y 0) (y 1)) (fun _ _ _ _ => Iff.rfl) (y 2)
  rw [e]

/-- The value claim: from memories that agree on the input, the kernel at the ideal instance and the reference both
    terminate with the same result, their inputs unchanged. -/
theorem algebraic : Cert.algebraic_KernelIdeal_ReferenceIdeal := fun m g m' g' _ hagree =>
  ⟨fun c => topOut (F := Ideal) (m (xLoc c)),
    (θ_run Cert.KernelIdeal.defs _ _).mono (fun _ h c => ⟨(h.1 c).2, (h.1 c).1⟩) (run_main (F := Ideal) m g),
    (θ_run Cert.ReferenceIdeal.defs _ _).mono (fun _ h c => ⟨(h c).1.trans
      ((congrArg (fun X => shapeCast Cert.ReferenceIdeal.S4x8192 (refVal X) Cert.ReferenceIdeal.Gen.shapeCasts_S4x1024x8_S4x8192)
        (hagree c)).trans (topOut_eq (m (xLoc c))).symm), (h c).2⟩) (Cert.ReferenceIdeal.Value.run (F := Ideal) m' g')⟩

end Cert.TopEight

end
-- ==== Proof.lean ====
/-
  The proof of `Cert.Claim`: the three frames, the idealization's rewrites (there are none) and the value.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value

@[expose] public section

noncomputable section

namespace Cert.Proof

/-- Everything the certificate claims. -/
theorem claim : Cert.Claim :=
  ⟨Cert.Kernel.Gen.facts, Cert.KernelIdeal.Gen.facts, Cert.ReferenceIdeal.Gen.facts,
    TopEight.frame_kernel, TopEight.frame_ideal, TopEight.frame_reference, trivial, TopEight.algebraic⟩

end Cert.Proof

end
